-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S128x1024 : Shape := ⟨2, ![128, 1024]⟩
abbrev S8x128x1024 : Shape := ⟨3, ![8, 128, 1024]⟩
abbrev S8 : Shape := ⟨1, ![8]⟩
abbrev S_ : Shape := ⟨0, ![]⟩
abbrev S128x512 : Shape := ⟨2, ![128, 512]⟩
abbrev S1x128x1024 : Shape := ⟨3, ![1, 128, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S128x1024, .f32⟩
  | .local _ .vmem, ⟨0, _⟩ => ⟨S1024x512, .bf16⟩
  | .local _ .vmem, ⟨1, _⟩ => ⟨S512x1024, .bf16⟩
  | .local _ .vmem, ⟨2, _⟩ => ⟨S128x1024, .f32⟩
  | .local _ .vmem, ⟨3, _⟩ => ⟨S8x128x1024, .bf16⟩
  | .local _ .vmem, ⟨4, _⟩ => ⟨S8x128x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_65 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c1_i32_65
  let c8_i32_66 : BitVec 32 := 8#32
  let c0_i32_67 : BitVec 32 := 0#32
  let v98 : BitVec 1 := Scalar.cmpi .eq c8_i32_66 c0_i32_67
  let c1_i32_68 : BitVec 32 := 1#32
  let v99 : BitVec 32 := Scalar.select v98 c1_i32_68 c8_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c128_i32 : BitVec 32 := 128#32
  let v108 : BitVec 32 := Scalar.muli v107 c128_i32
  let v109 : Index := Scalar.indexCast v108
  let c0_72 : Index := 0#32
  ![v109.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_65 : BitVec 32 := 1#32
  let v97 : BitVec 32 := Scalar.addi v2 c1_i32_65
  let c8_i32_66 : BitVec 32 := 8#32
  let c0_i32_67 : BitVec 32 := 0#32
  let v98 : BitVec 1 := Scalar.cmpi .eq c8_i32_66 c0_i32_67
  let c1_i32_68 : BitVec 32 := 1#32
  let v99 : BitVec 32 := Scalar.select v98 c1_i32_68 c8_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c1_i32_79 : BitVec 32 := 1#32
  let v117 : BitVec 32 := Scalar.muli v107 c1_i32_79
  let v118 : BitVec 32 := Scalar.addi c0_i32_80 v117
  v118.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v127 : BitVec 32 := Scalar.addi v2 c2_i32_85
  let c8_i32_86 : BitVec 32 := 8#32
  let c0_i32_87 : BitVec 32 := 0#32
  let v128 : BitVec 1 := Scalar.cmpi .eq c8_i32_86 c0_i32_87
  let c1_i32_88 : BitVec 32 := 1#32
  let v129 : BitVec 32 := Scalar.select v128 c1_i32_88 c8_i32_86
  let v130 : BitVec 32 := Scalar.remsi v127 v129
  let c0_i32_90 : BitVec 32 := 0#32
  let v132 : BitVec 1 := Scalar.cmpi .slt v130 c0_i32_90
  let c0_i32_91 : BitVec 32 := 0#32
  let v133 : BitVec 1 := Scalar.cmpi .slt v129 c0_i32_91
  let v134 : BitVec 1 := Scalar.xori v132 v133
  let c0_i32_89 : BitVec 32 := 0#32
  let v131 : BitVec 1 := Scalar.cmpi .ne v130 c0_i32_89
  let v135 : BitVec 1 := Scalar.andi v134 v131
  let v136 : BitVec 32 := Scalar.addi v130 v129
  let v137 : BitVec 32 := Scalar.select v135 v136 v130
  let c1_i32_101 : BitVec 32 := 1#32
  let v147 : BitVec 32 := Scalar.muli v137 c1_i32_101
  let v148 : BitVec 32 := Scalar.addi c0_i32_102 v147
  v148.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_107 : BitVec 32 := 3#32
  let v157 : BitVec 32 := Scalar.addi v2 c3_i32_107
  let c8_i32_108 : BitVec 32 := 8#32
  let c0_i32_109 : BitVec 32 := 0#32
  let v158 : BitVec 1 := Scalar.cmpi .eq c8_i32_108 c0_i32_109
  let c1_i32_110 : BitVec 32 := 1#32
  let v159 : BitVec 32 := Scalar.select v158 c1_i32_110 c8_i32_108
  let v160 : BitVec 32 := Scalar.remsi v157 v159
  let c0_i32_112 : BitVec 32 := 0#32
  let v162 : BitVec 1 := Scalar.cmpi .slt v160 c0_i32_112
  let c0_i32_113 : BitVec 32 := 0#32
  let v163 : BitVec 1 := Scalar.cmpi .slt v159 c0_i32_113
  let v164 : BitVec 1 := Scalar.xori v162 v163
  let c0_i32_111 : BitVec 32 := 0#32
  let v161 : BitVec 1 := Scalar.cmpi .ne v160 c0_i32_111
  let v165 : BitVec 1 := Scalar.andi v164 v161
  let v166 : BitVec 32 := Scalar.addi v160 v159
  let v167 : BitVec 32 := Scalar.select v165 v166 v160
  let c1_i32_123 : BitVec 32 := 1#32
  let v177 : BitVec 32 := Scalar.muli v167 c1_i32_123
  let v178 : BitVec 32 := Scalar.addi c0_i32_124 v177
  v178.toNat
def k0_dev11 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_129 : BitVec 32 := 4#32
  let v187 : BitVec 32 := Scalar.addi v2 c4_i32_129
  let c8_i32_130 : BitVec 32 := 8#32
  let c0_i32_131 : BitVec 32 := 0#32
  let v188 : BitVec 1 := Scalar.cmpi .eq c8_i32_130 c0_i32_131
  let c1_i32_132 : BitVec 32 := 1#32
  let v189 : BitVec 32 := Scalar.select v188 c1_i32_132 c8_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c1_i32_145 : BitVec 32 := 1#32
  let v207 : BitVec 32 := Scalar.muli v197 c1_i32_145
  let v208 : BitVec 32 := Scalar.addi c0_i32_146 v207
  v208.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_151 : BitVec 32 := 5#32
  let v217 : BitVec 32 := Scalar.addi v2 c5_i32_151
  let c8_i32_152 : BitVec 32 := 8#32
  let c0_i32_153 : BitVec 32 := 0#32
  let v218 : BitVec 1 := Scalar.cmpi .eq c8_i32_152 c0_i32_153
  let c1_i32_154 : BitVec 32 := 1#32
  let v219 : BitVec 32 := Scalar.select v218 c1_i32_154 c8_i32_152
  let v220 : BitVec 32 := Scalar.remsi v217 v219
  let c0_i32_156 : BitVec 32 := 0#32
  let v222 : BitVec 1 := Scalar.cmpi .slt v220 c0_i32_156
  let c0_i32_157 : BitVec 32 := 0#32
  let v223 : BitVec 1 := Scalar.cmpi .slt v219 c0_i32_157
  let v224 : BitVec 1 := Scalar.xori v222 v223
  let c0_i32_155 : BitVec 32 := 0#32
  let v221 : BitVec 1 := Scalar.cmpi .ne v220 c0_i32_155
  let v225 : BitVec 1 := Scalar.andi v224 v221
  let v226 : BitVec 32 := Scalar.addi v220 v219
  let v227 : BitVec 32 := Scalar.select v225 v226 v220
  let c1_i32_167 : BitVec 32 := 1#32
  let v237 : BitVec 32 := Scalar.muli v227 c1_i32_167
  let v238 : BitVec 32 := Scalar.addi c0_i32_168 v237
  v238.toNat
def k0_dev13 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_173 : BitVec 32 := 6#32
  let v247 : BitVec 32 := Scalar.addi v2 c6_i32_173
  let c8_i32_174 : BitVec 32 := 8#32
  let c0_i32_175 : BitVec 32 := 0#32
  let v248 : BitVec 1 := Scalar.cmpi .eq c8_i32_174 c0_i32_175
  let c1_i32_176 : BitVec 32 := 1#32
  let v249 : BitVec 32 := Scalar.select v248 c1_i32_176 c8_i32_174
  let v250 : BitVec 32 := Scalar.remsi v247 v249
  let c0_i32_178 : BitVec 32 := 0#32
  let v252 : BitVec 1 := Scalar.cmpi .slt v250 c0_i32_178
  let c0_i32_179 : BitVec 32 := 0#32
  let v253 : BitVec 1 := Scalar.cmpi .slt v249 c0_i32_179
  let v254 : BitVec 1 := Scalar.xori v252 v253
  let c0_i32_177 : BitVec 32 := 0#32
  let v251 : BitVec 1 := Scalar.cmpi .ne v250 c0_i32_177
  let v255 : BitVec 1 := Scalar.andi v254 v251
  let v256 : BitVec 32 := Scalar.addi v250 v249
  let v257 : BitVec 32 := Scalar.select v255 v256 v250
  let c1_i32_189 : BitVec 32 := 1#32
  let v267 : BitVec 32 := Scalar.muli v257 c1_i32_189
  let v268 : BitVec 32 := Scalar.addi c0_i32_190 v267
  v268.toNat
def k0_dev14 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_195 : BitVec 32 := 7#32
  let v277 : BitVec 32 := Scalar.addi v2 c7_i32_195
  let c8_i32_196 : BitVec 32 := 8#32
  let c0_i32_197 : BitVec 32 := 0#32
  let v278 : BitVec 1 := Scalar.cmpi .eq c8_i32_196 c0_i32_197
  let c1_i32_198 : BitVec 32 := 1#32
  let v279 : BitVec 32 := Scalar.select v278 c1_i32_198 c8_i32_196
  let v280 : BitVec 32 := Scalar.remsi v277 v279
  let c0_i32_200 : BitVec 32 := 0#32
  let v282 : BitVec 1 := Scalar.cmpi .slt v280 c0_i32_200
  let c0_i32_201 : BitVec 32 := 0#32
  let v283 : BitVec 1 := Scalar.cmpi .slt v279 c0_i32_201
  let v284 : BitVec 1 := Scalar.xori v282 v283
  let c0_i32_199 : BitVec 32 := 0#32
  let v281 : BitVec 1 := Scalar.cmpi .ne v280 c0_i32_199
  let v285 : BitVec 1 := Scalar.andi v284 v281
  let v286 : BitVec 32 := Scalar.addi v280 v279
  let v287 : BitVec 32 := Scalar.select v285 v286 v280
  let c1_i32_211 : BitVec 32 := 1#32
  let v297 : BitVec 32 := Scalar.muli v287 c1_i32_211
  let v298 : BitVec 32 := Scalar.addi c0_i32_212 v297
  v298.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_217 : BitVec 32 := 128#32
  let v307 : BitVec 32 := Scalar.muli v2 c128_i32_217
  let v308 : Index := Scalar.indexCast v307
  let c0_218 : Index := 0#32
  ![v308.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S4096x1024, .f32⟩
  | .hbm, ⟨4, _⟩ => ⟨S1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Protocol.lean ====
/-
# The exchange of partial products: slots, semaphore cells, schedule

Eight devices each hold 512 columns of `A` and 512 rows of `B`. Device `c` computes, for each distance `k = 1 … 7`, the
partial product for the rows that device `ahead c k` keeps, writes it into slot `k` of its send buffer and copies that
slot into slot `k` of `ahead c k`'s landing buffer. So slot `k` of `c`'s landing buffer is written by `behind c k` and by
no one else. Before its first copy every device has signalled the barrier semaphore of the seven others and waited for
their seven signals.

As a protocol of rounds, every cell having at most the one round 0:
* the barrier cell of `c` has the duties `j = 1 … 7`; duty `j` is the signal of `ahead c j`, and hands over slot `j` of
  `ahead c j`'s landing buffer, the one `c`'s copy at distance `j` writes;
* the receive cell `k ≠ 0` of `c` has one duty, the copy from `behind c k`, and hands over slot `k` of `c`'s landing
  buffer, holding the partial product of `behind c k` for `c`;
* the send cell `k ≠ 0` of `c` has one duty, the same copy seen from its source, and hands slot `k` of the send buffer back.
The kernel uses neither slot nor cells at distance 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's component and the exchange's, whose duties are distances -/

/-- The exchange's ghost state: rounds at every semaphore cell, duties numbered by distances. -/
abbrev UX : Type := URounds (GSem nD τ sig) (Fin 8)
/-- All the ghost state: the pipeline's part and the exchange's. -/
abbrev UA : Type := UR sig nD τ × UX

local notation "𝕄" => MT nD τ sig Unit (Elt F) ℕ UA ℕ

/-- The pipeline's part lies on the left, -/
abbrev EP : Emb (UR sig nD τ) (MT nD τ sig Unit (Elt F) ℕ UA ℕ) := embL
/-- and the exchange's on the right. -/
abbrev EX : Emb UX (MT nD τ sig Unit (Elt F) ℕ UA ℕ) := embR

variable (m : (ℓ : Loc nD τ sig) → Buf (Elt F) ℓ) (ρ : Dev nD → PrngReg)

/-- The state at launch: any memory, any generator registers, every semaphore counter at zero. -/
def s₀ : MemSt nD τ sig (Elt F) := ⟨m, fun _ => 0, ρ⟩

/-! ## Distances around the eight devices -/

/-- The device `k` places after `c`. -/
def ahead (c : Dev nD) (k : Fin 8) : Dev nD := ⟨(c.val + k.val) % 8, Nat.mod_lt _ (by decide)⟩
/-- The device `k` places before `c`. -/
def behind (c : Dev nD) (k : Fin 8) : Dev nD := ⟨(c.val + (8 - k.val)) % 8, Nat.mod_lt _ (by decide)⟩
/-- The distance that leads back: `k` places on and `opp k` places on is once around. -/
def opp (k : Fin 8) : Fin 8 := ⟨(8 - k.val) % 8, Nat.mod_lt _ (by decide)⟩

/-- Going `k` places on and `k` places back leads to where one was, -/
theorem behind_ahead : ∀ (c : Dev nD) (k : Fin 8), behind (ahead c k) k = c := by decide +kernel
/-- and so does going back first, -/
theorem ahead_behind : ∀ (c : Dev nD) (k : Fin 8), ahead (behind c k) k = c := by decide +kernel
/-- and so does going on by `k` and then by its opposite. -/
theorem ahead_opp : ∀ (c : Dev nD) (k : Fin 8), ahead (ahead c k) (opp k) = c := by decide +kernel
/-- The opposite of the opposite is the distance itself. -/
theorem opp_opp : ∀ k : Fin 8, opp (opp k) = k := by decide
/-- The opposite of a distance other than 0 is not 0. -/
theorem opp_ne_zero : ∀ k : Fin 8, k ≠ 0 → opp k ≠ 0 := by decide

/-- The distances of the copies, in the kernel's order. -/
abbrev steps : List (Fin 8) := [1, 2, 3, 4, 5, 6, 7]

/-- The copies are at every distance but 0. -/
theorem mem_steps : ∀ k : Fin 8, k ∈ steps ↔ k ≠ 0 := by decide

/-- Moving on by `k` permutes the devices. -/
def turn (k : Fin 8) : Dev nD ≃ Dev nD := ⟨fun c => ahead c k, fun c => behind c k, fun c => behind_ahead c k, fun c => ahead_behind c k⟩
/-- Taking the opposite permutes the distances. -/
def flip : Fin 8 ≃ Fin 8 := ⟨opp, opp, opp_opp, opp_opp⟩

/-! ## The buffers and their slots -/

/-- The staged columns of `A`, -/
abbrev aM : Memref sig .tc .vmem S1024x512 .bf16 := Memref.whole cc0_stg0_0
/-- the staged rows of `B`, -/
abbrev bM : Memref sig .tc .vmem S512x1024 .bf16 := Memref.whole cc0_stg1_0
/-- and the accumulator, which is staged out as the result. -/
abbrev oM : Memref sig .tc .vmem S128x1024 .f32 := Memref.whole cc0_stg2_0
/-- The send buffer. -/
abbrev sndM : Memref sig .tc .vmem S8x128x1024 .bf16 := Memref.whole cc0_scratch0
/-- The landing buffer. -/
abbrev rcvM : Memref sig .tc .vmem S8x128x1024 .bf16 := Memref.whole cc0_scratch1

/-- Every slot lies inside its buffer. -/
theorem slot_inb (k : Fin 8) : ∀ a, (![k.val, 0, 0] : Fin 3 → Nat) a + S1x128x1024.size a ≤ S8x128x1024.size a := by
  revert k; decide

/-- Slot `k` of a send or landing buffer, as a rectangle of it. -/
abbrev slotR (k : Fin 8) : Rect S8x128x1024 := Rect.unit (s := S8x128x1024) ![k.val, 0, 0] S1x128x1024.size (slot_inb k)

/-- An element lies in slot `k` exactly if its leading coordinate is `k`. -/
theorem mem_slotR (k : Fin 8) (i : S8x128x1024.Idx) : i ∈ (slotR k).set ↔ (i 0).val = k.val := by
  rw [Rect.mem_set_unit]
  constructor
  · intro h
    have h0 := h 0
    have h1 : k.val ≤ (i 0).val ∧ (i 0).val < k.val + 1 := h0
    omega
  · intro h a
    have hb := (i a).isLt
    fin_cases a
    · show k.val ≤ (i 0).val ∧ (i 0).val < k.val + 1
      omega
    · show 0 ≤ (i 1).val ∧ (i 1).val < 0 + 128
      exact ⟨Nat.zero_le _, by rw [Nat.zero_add]; exact hb⟩
    · show 0 ≤ (i 2).val ∧ (i 2).val < 0 + 1024
      exact ⟨Nat.zero_le _, by rw [Nat.zero_add]; exact hb⟩

/-- Two slots have no element in common, -/
theorem slotR_disjoint (k k' : Fin 8) (h : k ≠ k') : Disjoint (slotR k).set (slotR k').set :=
  Finset.disjoint_left.mpr fun i hi hi' => h (Fin.ext (((mem_slotR k i).mp hi).symm.trans ((mem_slotR k' i).mp hi')))

/-- and the eight make up the buffer. -/
theorem slotR_cover : (Finset.univ : Finset (Fin 8)).biUnion (fun k => (slotR k).set) = Finset.univ :=
  Finset.eq_univ_of_forall fun i => Finset.mem_biUnion.mpr ⟨i 0, Finset.mem_univ _, (mem_slotR (i 0) i).mpr rfl⟩

/-- Device `c` holds slot `k` of a buffer, which reads `W`. -/
def slotHolds (M : Memref sig .tc .vmem S8x128x1024 .bf16) (c : Dev nD) (k : Fin 8) (W : Vec F S1x128x1024 .bf16) : sProp 𝕄 :=
  iprop(∃ f : Buf (Elt F) (M.view.loc (c : Thread nD τ)), ⌜(M.view.slice (slotR k)).read (Elt F) f = W⌝
    ∗ (M.view.loc (c : Thread nD τ) ↦[(M.view.slice (slotR k)).set]{fullShare} f))

/-- Device `c` holds slot `k` of a buffer, at any contents. -/
def slotAny (M : Memref sig .tc .vmem S8x128x1024 .bf16) (c : Dev nD) (k : Fin 8) : sProp 𝕄 :=
  iprop(∃ f : Buf (Elt F) (M.view.loc (c : Thread nD τ)), M.view.loc (c : Thread nD τ) ↦[(M.view.slice (slotR k)).set]{fullShare} f)

omit [FloatOps F] in
instance slotHolds_storable (M : Memref sig .tc .vmem S8x128x1024 .bf16) (c : Dev nD) (k : Fin 8) (W : Vec F S1x128x1024 .bf16) :
    BI.Storable (upEmb : UEmb _ 𝕄) (slotHolds M c k W) := by unfold slotHolds; infer_instance
omit [FloatOps F] in
instance slotAny_storable (M : Memref sig .tc .vmem S8x128x1024 .bf16) (c : Dev nD) (k : Fin 8) :
    BI.Storable (upEmb : UEmb _ 𝕄) (slotAny (F := F) M c k) := by unfold slotAny; infer_instance

omit [FloatOps F] in
/-- A slot held at known contents is held. -/
theorem slotHolds_any (M : Memref sig .tc .vmem S8x128x1024 .bf16) (c : Dev nD) (k : Fin 8) (W : Vec F S1x128x1024 .bf16) :
    (slotHolds M c k W : sProp 𝕄) ⊢ slotAny M c k := by
  unfold slotHolds slotAny
  iintro ⟨%f, -, H⟩
  iexists f; iexact H

omit [FloatOps F] in
/-- The elements of a slot, held at some contents of the buffer, are the slot. -/
theorem slotAny_intro (M : Memref sig .tc .vmem S8x128x1024 .bf16) (c : Dev nD) (k : Fin 8) (f : Buf (Elt F) (M.view.loc (c : Thread nD τ))) :
    (M.view.loc (c : Thread nD τ) ↦[(M.view.slice (slotR k)).set]{fullShare} f : sProp 𝕄) ⊢ slotAny M c k := by
  unfold slotAny
  iintro H; iexists f; iexact H

omit [FloatOps F] in
/-- A slotted buffer held whole is its eight slots, -/
theorem slots_split (M : Memref sig .tc .vmem S8x128x1024 .bf16) (hM : M.view.set = Finset.univ) (c : Dev nD)
    (f : Buf (Elt F) (M.view.loc (c : Thread nD τ))) :
    ((M.view.loc (c : Thread nD τ) ↦{fullShare} f : sProp 𝕄)) ⊢ bigSep Finset.univ fun k => slotAny M c k := by
  rw [← hM, pointsTo_rects (c : Thread nD τ) M fullShare slotR (fun _ _ => rfl) slotR_disjoint slotR_cover f]
  refine bigSep_mono fun k _ => ?_
  rw [owns_slice_read]
  exact slotAny_intro M c k f

omit [FloatOps F] in
/-- A buffer owned at what it reads is held whole, at some contents. -/
theorem owns_any (M : Memref sig .tc .vmem S8x128x1024 .bf16) (hM : M.view.set = Finset.univ) (c : Dev nD) (X : S8x128x1024.Idx → Elt F .bf16) :
    (owns (c : Thread nD τ) M fullShare X : sProp 𝕄)
      ⊢ iprop(∃ f : Buf (Elt F) (M.view.loc (c : Thread nD τ)), M.view.loc (c : Thread nD τ) ↦{fullShare} f) := by
  unfold owns
  rw [hM]
  iintro ⟨%g, -, H⟩
  iexists g
  iexact H

omit [FloatOps F] in
/-- A slot at some contents of the whole buffer is owned at what they read there. -/
theorem slot_owns (M : Memref sig .tc .vmem S8x128x1024 .bf16) (c : Dev nD) (k : Fin 8) (fs : Fin 8 → Buf (Elt F) (M.view.loc (c : Thread nD τ))) :
    (M.view.loc (c : Thread nD τ) ↦[(M.view.slice (slotR k)).set]{fullShare} fs k : sProp 𝕄)
      = owns (c : Thread nD τ) (M.slice (slotR k) (fun _ => rfl)) fullShare
          (fun j => (fun i : S8x128x1024.Idx => M.view.read (Elt F) (fs (i 0)) i) ((slotR k).emb j)) := by
  rw [← owns_slice_read (c : Thread nD τ) M fullShare (slotR k) (fun _ => rfl) (fs k)]
  refine congrArg _ (funext fun j => ?_)
  have h0 : ((slotR k).emb j) 0 = k :=
    Fin.ext ((mem_slotR k _).mp ((slotR k).map_emb_univ ▸ Finset.mem_map_of_mem _ (Finset.mem_univ j)))
  show _ = M.view.read (Elt F) (fs (((slotR k).emb j) 0)) ((slotR k).emb j)
  rw [h0]

/-- and its eight slots are the buffer. -/
theorem slots_join (M : Memref sig .tc .vmem S8x128x1024 .bf16) (hM : M.view.set = Finset.univ) (c : Dev nD) :
    (bigSep Finset.univ fun k => slotAny M c k) ⊢ (iprop(∃ f : Buf (Elt F) (M.view.loc (c : Thread nD τ)), M.view.loc (c : Thread nD τ) ↦{fullShare} f) : sProp 𝕄) := by
  haveI : ∀ k : Fin 8, Nonempty (Buf (Elt F) (M.view.loc (c : Thread nD τ))) := fun _ => ⟨fun _ => (Elt.nonempty F _).some⟩
  unfold slotAny
  refine (BI.bigSep_exists_pi Finset.univ (fun (k : Fin 8) (f : Buf (Elt F) (M.view.loc (c : Thread nD τ))) =>
    (M.view.loc (c : Thread nD τ) ↦[(M.view.slice (slotR k)).set]{fullShare} f : sProp 𝕄))).trans ?_
  refine BIClass.exists_elim fun fs => ?_
  rw [bigSep_congr fun k _ => slot_owns M c k fs]
  exact (owns_of_rects (c : Thread nD τ) M fullShare slotR (fun _ _ => rfl) slotR_disjoint slotR_cover
    (fun i : S8x128x1024.Idx => M.view.read (Elt F) (fs (i 0)) i)).trans (owns_any M hM c _)

/-! ## The semaphores and their cells -/

/-- The barrier semaphore, shared by every kernel of the same collective, outside the launch's scope. -/
abbrev barS : Sem sig := (SemArray.scalar (sig.barrier 0 rfl) : Sems sig S_).sem

/-- Every semaphore at a distance lies inside its array. -/
theorem sem_inb (k : Fin 8) : ∀ a, (![k.val] : Fin 1 → Nat) a + S1.size a ≤ S8.size a := by revert k; decide

/-- The send semaphore at distance `k`. -/
abbrev sndS (k : Fin 8) : DmaSem sig :=
  ((cc0_scratch2.slice (Rect.unit (s := S8) ![k.val] S1.size (sem_inb k))).squeeze S_ squeezes_S1_S_).sem
/-- The receive semaphore at distance `k`. -/
abbrev rcvS (k : Fin 8) : DmaSem sig :=
  ((cc0_scratch3.slice (Rect.unit (s := S8) ![k.val] S1.size (sem_inb k))).squeeze S_ squeezes_S1_S_).sem

/-- The places of a device's cells: the barrier, the send cells, the receive cells. -/
abbrev Place : Type := Unit ⊕ (Fin 8 ⊕ Fin 8)
/-- The barrier's place, -/
abbrev pBar : Place := .inl ()
/-- that of the send cell at distance `k`, -/
abbrev pSnd (k : Fin 8) : Place := .inr (.inl k)
/-- and that of the receive cell. -/
abbrev pRcv (k : Fin 8) : Place := .inr (.inr k)

/-- The kernel's own semaphores. -/
def osem : Fin 8 ⊕ Fin 8 → SemLoc sig := Sum.elim (fun k => .dma (sndS k)) (fun k => .dma (rcvS k))
/-- The semaphore of each place. -/
def csem : Place → SemLoc sig := Sum.elim (fun _ => .reg barS) osem

/-- The cell of a device at a place: -/
abbrev cell (cp : Dev nD × Place) : GSem nD τ sig := ((cp.1 : Thread nD τ), csem cp.2)
/-- its barrier cell, -/
abbrev barCell (c : Dev nD) : GSem nD τ sig := ((c : Thread nD τ), .reg barS)
/-- its send cell at distance `k`, -/
abbrev sndCell (c : Dev nD) (k : Fin 8) : GSem nD τ sig := ((c : Thread nD τ), .dma (sndS k))
/-- its receive cell at distance `k`. -/
abbrev rcvCell (c : Dev nD) (k : Fin 8) : GSem nD τ sig := ((c : Thread nD τ), .dma (rcvS k))

/-- Which place a semaphore serves. -/
def role : SemLoc sig → Option Place
  | .reg s => if s = barS then some pBar else none
  | .dma s => if h : 3 ≤ s.val ∧ s.val < 11 then some (pSnd ⟨s.val - 3, by omega⟩)
      else if h : 11 ≤ s.val ∧ s.val < 19 then some (pRcv ⟨s.val - 11, by omega⟩) else none

/-- The barrier semaphore serves the barrier's place, -/
theorem role_bar : role (.reg barS) = some pBar := by decide +kernel
/-- a send semaphore that of its send cell, -/
theorem role_snd : ∀ k, role (.dma (sndS k)) = some (pSnd k) := by decide +kernel
/-- a receive semaphore that of its receive cell, -/
theorem role_rcv : ∀ k, role (.dma (rcvS k)) = some (pRcv k) := by decide +kernel
/-- and in all the semaphore of a place serves that place. -/
theorem role_csem : ∀ p, role (csem p) = some p := by decide +kernel

/-- Different places have different semaphores. -/
theorem csem_injective : Function.Injective csem := fun p q h =>
  Option.some.inj ((role_csem p).symm.trans ((congrArg role h).trans (role_csem q)))

/-- What one copy credits to each of its two semaphores. -/
abbrev N : ℕ := ((rcvM.slice (slotR 0) (fun _ => rfl)).squeeze S128x1024 squeezes_S1x128x1024_S128x1024).view.dmaCredit

/-- A copy credits something. -/
theorem N_pos : 0 < N := View.dmaCredit_pos _ (by decide)

/-! ## Contents -/

/-- Device `c`'s columns of `A`, as staged. -/
def aAt (c : Dev nD) : (cc0_stg0_0 : Ref sig .tc).ty.Contents (Elt F) :=
  (win0_0.blk (0 : Fin 1)).view.read (Elt F) ((s₀ m ρ).mem ((c : Thread nD τ).loc main_arg0))
/-- Device `c`'s rows of `B`, as staged. -/
def bAt (c : Dev nD) : (cc0_stg1_0 : Ref sig .tc).ty.Contents (Elt F) :=
  (win0_1.blk (0 : Fin 1)).view.read (Elt F) ((s₀ m ρ).mem ((c : Thread nD τ).loc main_arg1))

/-- The rows a device keeps lie inside the array. -/
theorem rows_inb (t : Dev nD) : ∀ a, (![128 * t.val, 0] : Fin 2 → Nat) a + S128x512.size a ≤ S1024x512.size a := by
  revert t; decide

/-- The 128 rows of a `1024 × 512` array that device `t` keeps. -/
def rowsOf (f : (cc0_stg0_0 : Ref sig .tc).ty.Contents (Elt F)) (t : Dev nD) : Vec F S128x512 .bf16 :=
  aM.view.readAt (Elt F) (Rect.unit (s := S1024x512) ![128 * t.val, 0] S128x512.size (rows_inb t)).toLoadRect f

/-- What device `c` sends device `t`: its rounded partial product for `t`'s rows. -/
def partFor (c t : Dev nD) : Vec F S1x128x1024 .bf16 := k0_pay2 (bAt m ρ c) (rowsOf (aAt m ρ c) t)

/-- Device `c`'s partial product for its own rows. -/
def ownPart (c : Dev nD) : (cc0_stg2_0 : Ref sig .tc).ty.Contents (Elt F) := k0_pay10 (k0_pay1 (bAt m ρ c)) (rowsOf (aAt m ρ c) c)

/-- The accumulator after the slots of a list of distances have been added, in order. -/
def accum (c : Dev nD) (l : List (Fin 8)) : (cc0_stg2_0 : Ref sig .tc).ty.Contents (Elt F) :=
  l.foldl (fun o k => k0_pay11 o (partFor m ρ (behind c k) c)) (ownPart m ρ c)

/-- The kernel's result on device `c`. -/
def outAt (c : Dev nD) : (cc0_stg2_0 : Ref sig .tc).ty.Contents (Elt F) := accum m ρ c steps

/-! ## The schedule -/

/-- The duties of round 0 at a place. -/
def dutiesAt : Option Place → Finset (Fin 8)
  | some (.inl _) => Finset.univ.erase 0
  | some (.inr (.inl k)) => if k = 0 then ∅ else {0}
  | some (.inr (.inr k)) => if k = 0 then ∅ else {0}
  | none => ∅

/-- What each duty of a place pays. -/
def amountAt : Option Place → ℕ
  | some (.inl _) => 1
  | _ => N

/-- What duty `d` of device `c`'s cell at a place hands over. -/
def payAt (c : Dev nD) (d : Fin 8) : Option Place → sProp 𝕄
  | some (.inl _) => slotAny rcvM (ahead c d) d
  | some (.inr (.inl k)) => slotAny sndM c k
  | some (.inr (.inr k)) => slotHolds rcvM c k (partFor m ρ (behind c k) c)
  | none => iprop(emp)

/-- Every duty pays something. -/
theorem amountAt_pos (p : Option Place) : 0 < amountAt p := by
  rcases p with _ | _ | _ | _ <;> first | exact Nat.one_pos | exact N_pos

/-- The schedule of the exchange. -/
def sched : Rounds.Schedule (GSem nD τ sig) (Fin 8) 𝕄 where
  duties g r := if r = 0 ∧ g.1.2 = .tc then dutiesAt (role g.2) else ∅
  unitless _ := False
  amount g _ _ := amountAt (role g.2)
  payload g _ d := payAt m ρ g.1.1 d (role g.2)
  amount_pos g _ _ _ := amountAt_pos _

instance payAt_storable (c : Dev nD) (d : Fin 8) (p : Option Place) : BI.Storable (upEmb : UEmb _ 𝕄) (payAt m ρ c d p) := by
  rcases p with _ | _ | _ | _ <;> (unfold payAt; infer_instance)

instance sched_payload_storable (g : GSem nD τ sig) (r : ℕ) (d : Fin 8) :
    BI.Storable (upEmb : UEmb _ 𝕄) ((sched (F := F) m ρ).payload g r d) := payAt_storable m ρ g.1.1 d (role g.2)

section Tables
variable (c : Dev nD) (k d : Fin 8)

/-- A barrier cell has the seven duties at the distances other than 0, -/
theorem duties_bar : (sched m ρ).duties (barCell c) 0 = Finset.univ.erase 0 := by
  dsimp only [sched]; rw [if_pos ⟨rfl, rfl⟩, role_bar]; rfl
/-- a send cell the one duty 0, -/
theorem duties_snd (hk : k ≠ 0) : (sched m ρ).duties (sndCell c k) 0 = {0} := by
  dsimp only [sched]; rw [if_pos ⟨rfl, rfl⟩, role_snd]; exact if_neg hk
/-- and so has a receive cell. -/
theorem duties_rcv (hk : k ≠ 0) : (sched m ρ).duties (rcvCell c k) 0 = {0} := by
  dsimp only [sched]; rw [if_pos ⟨rfl, rfl⟩, role_rcv]; exact if_neg hk
/-- No cell has a duty after round 0, -/
theorem duties_later (g : GSem nD τ sig) : ∀ r, 1 ≤ r → (sched m ρ).duties g r = ∅ :=
  fun r hr => by dsimp only [sched]; rw [if_neg fun h => by omega]
/-- and the unused cells at distance 0 have none at all. -/
theorem duties_unused (p : Fin 8 ⊕ Fin 8) (hp : p = .inl 0 ∨ p = .inr 0) : ∀ r, 0 ≤ r → (sched m ρ).duties (cell (c, .inr p)) r = ∅ :=
  fun r _ => by
    dsimp only [sched, cell]
    rw [role_csem]
    rcases hp with rfl | rfl <;> exact ite_self _

/-- A signal pays a barrier cell one, -/
theorem amount_bar : (sched m ρ).amount (barCell c) 0 d = 1 := by dsimp only [sched]; rw [role_bar]; rfl
/-- a copy pays its send cell `N`, -/
theorem amount_snd : (sched m ρ).amount (sndCell c k) 0 d = N := by dsimp only [sched]; rw [role_snd]; rfl
/-- and its receive cell `N` as well. -/
theorem amount_rcv : (sched m ρ).amount (rcvCell c k) 0 d = N := by dsimp only [sched]; rw [role_rcv]; rfl

/-- A signal hands over the landing slot its receiver will write, -/
theorem payload_bar : (sched m ρ).payload (barCell c) 0 d = slotAny rcvM (ahead c d) d := by dsimp only [sched]; rw [role_bar]; rfl
/-- the send cell the send slot, -/
theorem payload_snd : (sched m ρ).payload (sndCell c k) 0 d = slotAny sndM c k := by dsimp only [sched]; rw [role_snd]; rfl
/-- and the receive cell the landing slot, which holds what was sent. -/
theorem payload_rcv : (sched m ρ).payload (rcvCell c k) 0 d = slotHolds rcvM c k (partFor m ρ (behind c k) c) := by
  dsimp only [sched]; rw [role_rcv]; rfl

/-- A barrier cell expects seven in all, -/
theorem expect_bar : (sched m ρ).expect (barCell c) 0 = 7 := by
  unfold Schedule.expect Schedule.amountOf
  rw [duties_bar, Finset.sum_congr rfl fun d _ => amount_bar m ρ c d]; decide
/-- a send cell `N`, -/
theorem expect_snd (hk : k ≠ 0) : (sched m ρ).expect (sndCell c k) 0 = N := by
  unfold Schedule.expect Schedule.amountOf; rw [duties_snd m ρ c k hk, Finset.sum_singleton, amount_snd]
/-- and a receive cell `N`. -/
theorem expect_rcv (hk : k ≠ 0) : (sched m ρ).expect (rcvCell c k) 0 = N := by
  unfold Schedule.expect Schedule.amountOf; rw [duties_rcv m ρ c k hk, Finset.sum_singleton, amount_rcv]

/-- A round waited for whole hands over all its payloads: the seven landing slots; -/
theorem rest_bar : bigSep ((sched m ρ).duties (barCell c) 0 \ ∅) (fun d => (sched m ρ).payload (barCell c) 0 d)
    = bigSep (Finset.univ.erase 0) fun j => slotAny rcvM (ahead c j) j := by
  rw [Finset.sdiff_empty, duties_bar]; exact bigSep_congr fun d _ => payload_bar m ρ c d
/-- the send slot; -/
theorem rest_snd (hk : k ≠ 0) : bigSep ((sched m ρ).duties (sndCell c k) 0 \ ∅) (fun d => (sched m ρ).payload (sndCell c k) 0 d)
    = slotAny sndM c k := by
  rw [Finset.sdiff_empty, duties_snd m ρ c k hk, bigSep_singleton, payload_snd]
/-- the landing slot with the partial product that was sent. -/
theorem rest_rcv (hk : k ≠ 0) : bigSep ((sched m ρ).duties (rcvCell c k) 0 \ ∅) (fun d => (sched m ρ).payload (rcvCell c k) 0 d)
    = slotHolds rcvM c k (partFor m ρ (behind c k) c) := by
  rw [Finset.sdiff_empty, duties_rcv m ρ c k hk, bigSep_singleton, payload_rcv]

end Tables

/-! ## What each device owes, and the order of waiting -/

/-- The copies still to be made: each owes the receiver's cell one credit. -/
def oweR (c : Dev nD) : List (Fin 8) → CellTallies nD τ sig Unit
  | [] => 0
  | k :: l => oweR c l + tallyAt (rcvCell (ahead c k) k) () N
/-- The signals still to be made, and all the copies. -/
def oweB (c : Dev nD) : List (Fin 8) → CellTallies nD τ sig Unit
  | [] => oweR c steps
  | k :: l => oweB c l + tallyAt (barCell (ahead c k)) () 1
/-- What a device owes at the start: all its signals and all its copies. -/
def O₀ (c : Dev nD) : CellTallies nD τ sig Unit := oweB c steps

/-- The waiting order has one level on every cell of a device's own core, and none elsewhere. -/
def L (g : GSem nD τ sig) : Finset Unit := if g.1.2 = .tc then {()} else ∅
/-- Barrier cells lie below receive cells; everything else lies lowest. -/
def rank : Option Place → ℕ
  | some (.inl _) => 1
  | some (.inr (.inr _)) => 2
  | _ => 0
/-- The level of a cell is the rank of its place. -/
def lv (g : GSem nD τ sig) (_ : Unit) : ℕ := rank (role g.2)

/-- Receive cells lie above barrier cells. -/
theorem rank_rcv_lt (k : Fin 8) : 1 < rank (some (pRcv k)) := Nat.lt_succ_self 1

/-- Cells elsewhere have no level, -/
theorem L_of_ne (g : GSem nD τ sig) (h : g.1.2 ≠ .tc) : L g = ∅ := if_neg h
/-- and cells of a device's own core have one. -/
theorem L_tc (c : Dev nD) (sm : SemLoc sig) : L ((c : Thread nD τ), sm) = {()} := if_pos rfl

/-- A device owes copies to receive cells only, -/
theorem oweR_pos {c : Dev nD} {g : GSem nD τ sig} {u : Unit} : ∀ {l : List (Fin 8)}, 0 < oweR c l g u → ∃ k, g = rcvCell (ahead c k) k
  | [], h => absurd h (Nat.lt_irrefl 0)
  | k :: l, h => by
    unfold oweR at h
    rw [Pi.add_apply, Finsupp.add_apply, tallyAt_apply] at h
    by_cases hg : g = rcvCell (ahead c k) k ∧ u = ()
    · exact ⟨k, hg.1⟩
    · rw [if_neg hg, Nat.add_zero] at h; exact oweR_pos h
/-- and signals to barrier cells only. -/
theorem oweB_pos {c : Dev nD} {g : GSem nD τ sig} {u : Unit} :
    ∀ {l : List (Fin 8)}, 0 < oweB c l g u → (∃ k, g = rcvCell (ahead c k) k) ∨ ∃ k, g = barCell (ahead c k)
  | [], h => .inl (oweR_pos h)
  | k :: l, h => by
    unfold oweB at h
    rw [Pi.add_apply, Finsupp.add_apply, tallyAt_apply] at h
    by_cases hg : g = barCell (ahead c k) ∧ u = ()
    · exact .inr ⟨k, hg.1⟩
    · rw [if_neg hg, Nat.add_zero] at h; exact oweB_pos h

omit [FloatOps F] in
/-- A device may wait on a semaphore of the lowest rank whatever of its dues is left. -/
theorem mayWait_low (c : Dev nD) (s : SemLoc sig) (hs : rank (role s) = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨k, rfl⟩ | ⟨k, rfl⟩ <;> exact Finset.mem_singleton_self _)
      (fun p hp => by rw [Finset.mem_singleton.mp hp]; exact hs.le)
      (fun g u hg => by
        rcases oweB_pos hg with ⟨k, rfl⟩ | ⟨k, rfl⟩
        · dsimp only [lv]; rw [role_rcv]; exact (rank_rcv_lt k).le
        · dsimp only [lv]; rw [role_bar]; decide)
  · rw [MayWait_zero]; iintro -; iempintro

omit [FloatOps F] in
/-- At its barrier wait a device owes copies only, and their cells lie above the barrier. -/
theorem mayWait_bar (c : Dev nD) (l : List (Fin 8)) : (levAts L lv : sProp 𝕄) ⊢ MayWait (c : Thread nD τ) (.reg barS) () (oweR c l) :=
  MayOwe.of_cut (L := L) (lev := lv) 1 (fun p hp => by rw [Finset.mem_singleton.mp hp, L_tc]; exact Finset.mem_singleton_self _)
    (fun g u hg => by obtain ⟨k, rfl⟩ := oweR_pos hg; exact Finset.mem_singleton_self _)
    (fun p hp => by rw [Finset.mem_singleton.mp hp]; dsimp only [lv]; rw [role_bar]; decide)
    (fun g u hg => by obtain ⟨k, rfl⟩ := oweR_pos hg; dsimp only [lv]; rw [role_rcv]; exact rank_rcv_lt k)

end Cert.Exchange

end
-- ==== Proof.Steps.lean ====
/-
# One step of each kind

The kernel runs through five kinds of step, each at every distance `1 … 7`: a signal of the barrier, a partial product made
and sent, a slot received and added, a send slot taken back. Each kind is proved here once, at a symbolic device and
distance; the body applies it seven times.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-- The body has no loop that would need a measure. -/
abbrev 𝒱₀ : Variants := Variants.none

/-- Device `c` runs a program to a postcondition. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What the devices share and what each holds -/

/-- Every cell of the exchange is in its invariant, at names `K`, and at round 0: facts every device has. -/
def records (K : Dev nD × Place → ℕ) : sProp 𝕄 :=
  iprop((bigSep Finset.univ fun cp => cellInv EX (sched m ρ) (K cp) (cell cp)) ∗ bigSep Finset.univ fun cp => reached EX (cell cp) 0)

instance records_persistent (K : Dev nD × Place → ℕ) : BI.Persistent (records m ρ K) := by unfold records; infer_instance

omit [FloatOps F] in
/-- One of a whole family. -/
theorem member {I : Type} [DecidableEq I] [Fintype I] (Φ : I → sProp 𝕄) (i : I) : (bigSep Finset.univ Φ : sProp 𝕄) ⊢ Φ i :=
  bigSep_elim (Finset.mem_univ i)

/-- So any cell is in its invariant, -/
theorem inv_at (K : Dev nD × Place → ℕ) (c : Dev nD) (p : Place) : records m ρ K ⊢ cellInv EX (sched m ρ) (K (c, p)) (cell (c, p)) := by
  unfold records
  iintro ⟨H, -⟩
  iapply (member (fun cp : Dev nD × Place => cellInv EX (sched m ρ) (K cp) (cell cp)) (c, p)); iexact H

/-- and at round 0. -/
theorem reached_at (K : Dev nD × Place → ℕ) (c : Dev nD) (p : Place) : records m ρ K ⊢ reached EX (cell (c, p)) 0 := by
  unfold records
  iintro ⟨-, H⟩
  iapply (member (fun cp : Dev nD × Place => (reached EX (cell cp) 0 : sProp 𝕄)) (c, p)); iexact H

/-- Device `c` owes `O`. -/
def due (c : Dev nD) (O : CellTallies nD τ sig Unit) : sProp 𝕄 := iprop(∃ W, owes (c : Thread nD τ) O W)

/-- For its signal at distance `p`: the duty there, and the landing slot the signal hands over. -/
def sigKit (c : Dev nD) (p : Fin 8) : sProp 𝕄 := iprop(dutyTok EX (barCell (ahead c p)) 0 (opp p) ∗ slotAny rcvM c (opp p))
/-- For its copy at distance `k`: its send slot, and the duties of the copy's two cells. -/
def sendKit (c : Dev nD) (k : Fin 8) : sProp 𝕄 :=
  iprop(slotAny sndM c k ∗ dutyTok EX (sndCell c k) 0 (0 : Fin 8) ∗ dutyTok EX (rcvCell (ahead c k) k) 0 (0 : Fin 8))
/-- For its wait for the copy from distance `k`: the credit and its place at the cell. -/
def recvKit (c : Dev nD) (k : Fin 8) : sProp 𝕄 := iprop(cred (tallyAt (rcvCell c k) () N) ∗ atPos EX (rcvCell c k) 0 (∅ : Finset (Fin 8)) 0)
/-- What is left at a cell at distance `k` after its wait: the slot, and the semaphore at zero. -/
def recvDone (c : Dev nD) (k : Fin 8) : sProp 𝕄 := iprop(slotAny rcvM c k ∗ semVal (rcvCell c k) 0)
/-- The same for the send cell at distance `k`. -/
def sendDone (c : Dev nD) (k : Fin 8) : sProp 𝕄 := iprop(slotAny sndM c k ∗ semVal (sndCell c k) 0)

/-- A staging buffer held whole. -/
abbrev held (c : Dev nD) (b : Ref sig .tc) (X : b.ty.Contents (Elt F)) : sProp 𝕄 := (((c : Thread nD τ).loc b) ↦{fullShare} X)

/-! ## A slot through its views -/

/-- Starting at row 0 and column 0 is starting at the origin. -/
theorem hz2 : (![0, 0] : Fin 2 → Nat) = fun _ => 0 := funext fun a => by fin_cases a <;> rfl

/-- Slot `k` of a buffer as the copies see it, without its leading axis. -/
abbrev flat (M : Memref sig .tc .vmem S8x128x1024 .bf16) (k : Fin 8) : Memref sig .tc .vmem S128x1024 .bf16 :=
  (M.slice (slotR k) (fun _ => rfl)).squeeze S128x1024 squeezes_S1x128x1024_S128x1024

omit [FloatOps F] in
/-- It has the slot's elements. -/
theorem flat_set (M : Memref sig .tc .vmem S8x128x1024 .bf16) (k : Fin 8) : (flat M k).view.set = (M.view.slice (slotR k)).set :=
  View.set_reshape _ _

omit [FloatOps F] in
/-- A copy between two slots makes the second read what the first reads. -/
theorem read_copied (M M' : Memref sig .tc .vmem S8x128x1024 .bf16) (k : Fin 8) (fd : M'.view.ty.Contents (Elt F)) (fs : M.view.ty.Contents (Elt F)) :
    (M'.view.slice (slotR k)).read (Elt F) ((flat M' k).view.write (Elt F) fd ((flat M k).view.read (Elt F) fs) Finset.univ)
      = (M.view.slice (slotR k)).read (Elt F) fs := by
  have h : S128x1024.numel = (slotR k).shape.numel := squeezes_S1x128x1024_S128x1024.numel_eq
  funext x
  obtain ⟨y, rfl⟩ := (Shape.reshapeEquiv h).surjective x
  exact View.read_write_reshape (M'.view.slice (slotR k)) h fd ((flat M k).view.read (Elt F) fs) y

omit [FloatOps F] in
/-- Loading a slot reads it. -/
theorem load_slot (M : Memref sig .tc .vmem S8x128x1024 .bf16) (k : Fin 8) (f : M.view.ty.Contents (Elt F)) :
    M.view.readAt (Elt F) (slotR k).toLoadRect f = (M.view.slice (slotR k)).read (Elt F) f := rfl

omit [FloatOps F] in
/-- A load or a store of a slot touches only the slot's elements. -/
theorem slot_setOn (M : Memref sig .tc .vmem S8x128x1024 .bf16) (k : Fin 8) :
    M.view.setOn (slotR k).toLoadRect.set ⊆ (M.view.slice (slotR k)).set := by
  rw [View.set_slice]; exact Finset.Subset.refl _

omit [FloatOps F] in
/-- The elements of a slot, at contents that read `W` there, are the slot holding `W`. -/
theorem slotHolds_intro (M : Memref sig .tc .vmem S8x128x1024 .bf16) (c : Dev nD) (k : Fin 8) (W : Vec F S1x128x1024 .bf16)
    (f : Buf (Elt F) (M.view.loc (c : Thread nD τ))) (hf : (M.view.slice (slotR k)).read (Elt F) f = W) :
    (M.view.loc (c : Thread nD τ) ↦[(M.view.slice (slotR k)).set]{fullShare} f : sProp 𝕄) ⊢ slotHolds M c k W := by
  unfold slotHolds
  iintro H
  iexists f
  isplitr; · ipureintro; exact hf
  iexact H

/-! ## The barrier -/

/-- A signal: the landing slot goes out with it, and one signal less is owed. -/
theorem signal_step (K : Dev nD × Place → ℕ) (c n : Dev nD) (p : Fin 8) (hp : p ≠ 0) (hn : n = ahead c p) (l : List (Fin 8))
    {j : ℤ} (hj : j = 1) {α : Type} {Q : α → sProp 𝕄} {k : PUnit → Prog (TpuEff nD τ sig (Elt F) Λ₀ .tc) α} :
    records m ρ K
      ⊢ iprop(due c (oweB c (p :: l)) -∗ sigKit c p -∗ (due c (oweB c l) -∗ Runs c (k ⟨⟩) Q) -∗ Runs c (.op (.semSignal (n : Thread nD τ) barS j) k) Q) := by
  subst hn hj
  unfold due sigKit
  iintro #HR ⟨%W, HO⟩ ⟨Htok, Hslot⟩ Hk
  iapply (Rounds.wp_signal 𝒱₀ EX (sched m ρ) (c : Thread nD τ) none (dst := (ahead c p : Thread nD τ)) (κ := K (ahead c p, pBar)) (r := 0)
    (d := opp p) (k' := 1) (by rw [duties_bar]; exact Finset.mem_erase.mpr ⟨opp_ne_zero p hp, Finset.mem_univ _⟩)
    (amount_bar m ρ (ahead c p) (opp p)) () (oweB c l) rfl) $$ [HO Htok Hslot]
  · isplitr; · iapply (inv_at m ρ K (ahead c p) pBar); iexact HR
    isplitl [HO]; · iexact HO
    isplitl [Htok]; · iexact Htok
    isplitl [Hslot]; · rw [payload_bar, ahead_opp]; iexact Hslot
    iapply (reached_at m ρ K (ahead c p) pBar); iexact HR
  iintro HO
  iapply Hk
  iexists W; iexact HO

/-- The wait for the seven signals: they bring the landing slots of the seven copies, and the barrier's cell is done with. -/
theorem barrier_step (K : Dev nD × Place → ℕ) (c : Dev nD) (l : List (Fin 8)) {j : ℤ} (hj : j = 7)
    {α : Type} {Q : α → sProp 𝕄} {k : PUnit → Prog (TpuEff nD τ sig (Elt F) Λ₀ .tc) α} :
    records m ρ K
      ⊢ iprop(levAts L lv -∗ due c (oweR c l) -∗ cred (tallyAt (barCell c) () 7) -∗ atPos EX (barCell c) 0 (∅ : Finset (Fin 8)) 0
        -∗ ((due c (oweR c l) ∗ semVal (barCell c) 0 ∗ bigSep (Finset.univ.erase 0) fun i => slotAny rcvM (ahead c i) i) -∗ Runs c (k ⟨⟩) Q)
          -∗ Runs c (.op (.semWait barS j) k) Q) := by
  subst hj
  unfold due
  iintro #HR #Hlev ⟨%W, HO⟩ Hc Hat Hk
  iapply (Rounds.wp_wait_rest_token 𝒱₀ EX (sched m ρ) (c : Thread nD τ) none (κ := K (c, pBar)) (k' := 7)
      (wpE_semWait_eq 𝒱₀ (c : Thread nD τ) none Set.univ) (Set.mem_univ _) () (O := oweR c l) (W := W) (R := 0) (m := 0) (T := ∅)
      (by rw [expect_bar])) $$ [Hc HO Hat]
  · isplitr; · iapply (inv_at m ρ K c pBar); iexact HR
    isplitl [Hc]; · iexact Hc
    isplitl [HO]; · iexact HO
    isplitr; · iapply (mayWait_bar c l); iexact Hlev
    iexact Hat
  iintro ⟨HO, Hat, -, Hpay⟩
  ihave Hp := (Entails.of_eq (rest_bar m ρ c)) $$ Hpay
  imod (Rounds.cell_close EX (sched m ρ) (Set.mem_univ (K (c, pBar))) (fun h => h) (R := 0 + 1) (duties_later m ρ (barCell c))) $$ [Hat] with Hz
  · isplitr; · iapply (inv_at m ρ K c pBar); iexact HR
    iexact Hat
  iapply Hk
  isplitl [HO]; · iexists _; iexact HO
  isplitl [Hz] <;> iassumption

/-! ## Sending -/

/-- The partial product for the device `k` places ahead: load its rows of `A`, store the product in slot `k`, copy the slot
    to that device. The send slot and the landing slot stay with the copy; what is left is the credit for the send cell. -/
theorem send_step (K : Dev nD × Place → ℕ) (c n : Dev nD) (k : Fin 8) (hk : k ≠ 0) (hn : n = ahead c k) (l : List (Fin 8))
    {off : Fin 2 → ℕ} (hoff : off = ![128 * (ahead c k).val, 0]) {hin : ∀ a, off a + S128x512.size a ≤ S1024x512.size a}
    {w : Vec F S128x512 .bf16 → Vec F S1x128x1024 .bf16} (hw : w (rowsOf (aAt m ρ c) (ahead c k)) = partFor m ρ c (ahead c k))
    {hl : aM.view.LoadsAt (Rect.unit (s := S1024x512) off S128x512.size hin).toLoadRect}
    {hl' : sndM.view.LoadsAt (slotR k).toLoadRect} {hx : (sndM.access (slotR k)).Stores Finset.univ}
    {hm : (Finset.univ : Finset (slotR k).shape.Idx) = Finset.univ ∨ ∀ a, (slotR k).stride a = 1}
    {hsc : (flat rcvM k : Memref sig (Dev.tc n : Thread nD τ).2.kind .vmem S128x1024 .bf16).view.ref.isScScratch = false}
    {hsrc : (flat sndM k).view.WordExact} {hdst : (flat rcvM k).view.WordExact}
    {hsem : DmaTarget.Typed .vmem (.dma (rcvS k)) (.remote (Dev.tc n : Thread nD τ) (flat rcvM k) (.dma (sndS k)) hsc)}
    {α : Type} {Q : α → sProp 𝕄} {kk : PUnit → Prog (TpuEff nD τ sig (Elt F) Λ₀ .tc) α} :
    records m ρ K
      ⊢ iprop(due c (oweR c (k :: l)) -∗ held c cc0_stg0_0 (aAt m ρ c) -∗ sendKit c k -∗ slotAny rcvM (ahead c k) k
        -∗ ((due c (oweR c l) ∗ held c cc0_stg0_0 (aAt m ρ c) ∗ cred (tallyAt (sndCell c k) () N)) -∗ Runs c (kk ⟨⟩) Q)
          -∗ Runs c (.op (.load aM (Rect.unit (s := S1024x512) off S128x512.size hin).toLoadRect hl) fun va =>
              .op (.load sndM (slotR k).toLoadRect hl') fun _ =>
              .op (.store sndM (slotR k) (w va) Finset.univ hx hm) fun _ =>
              .op (.enqueueDma (flat sndM k) (.remote (Dev.tc n : Thread nD τ) (flat rcvM k) (.dma (sndS k)) hsc) (.dma (rcvS k)) hsrc hdst hsem) kk) Q) := by
  subst hn hoff
  unfold due sendKit slotAny
  iintro #HR ⟨%W, HO⟩ Ha ⟨⟨%fs, Hs⟩, HtS, HtR⟩ ⟨%fd, Hd⟩ Hk
  iapply (wp_load 𝒱₀ (c : Thread nD τ) none Set.univ (m := aM) (Finset.subset_univ _)) $$ Ha; iintro Ha
  iapply (wp_load 𝒱₀ (c : Thread nD τ) none Set.univ (m := sndM) (slot_setOn sndM k)) $$ Hs; iintro Hs
  iapply (wp_store 𝒱₀ (c : Thread nD τ) none Set.univ (m := sndM) (r := slotR k) (Mk := Finset.univ)
    (by rw [View.setOn_univ])) $$ Hs; iintro Hs
  rw [show w (aM.view.readAt (Elt F) (Rect.unit (s := S1024x512) ![128 * (ahead c k).val, 0] S128x512.size hin).toLoadRect (aAt m ρ c))
    = partFor m ρ c (ahead c k) from hw]
  iapply (Rounds.wp_send_pointsTo 𝒱₀ EX (sched m ρ) (c : Thread nD τ) none (src := flat sndM k) (dst := flat rcvM k) (c' := (ahead c k : Thread nD τ))
    (κ₁ := K (c, pSnd k)) (κ₂ := K (ahead c k, pRcv k)) (r₁ := 0) (r₂ := 0) (d₁ := (0 : Fin 8)) (d₂ := (0 : Fin 8)) (q := fullShare)
    (fs := (sndM.access (slotR k)).write (Elt F) fs (partFor m ρ c (ahead c k)) Finset.univ) (fd := fd)
    (by rw [duties_snd m ρ c k hk]; exact Finset.mem_singleton_self _) (by rw [duties_rcv m ρ (ahead c k) k hk]; exact Finset.mem_singleton_self _)
    () () N rfl (amount_snd m ρ c k 0) (amount_rcv m ρ (ahead c k) k 0) (oweR c l) rfl (W := W)
    (by rw [payload_snd, flat_set]; exact slotAny_intro sndM c k _)
    (by
      rw [payload_rcv, behind_ahead, flat_set]
      exact slotHolds_intro rcvM (ahead c k) k _ _ ((read_copied sndM rcvM k fd _).trans (View.read_write_univ _ _)))) $$ [HO Hs Hd HtS HtR]
  · isplitr; · iapply (inv_at m ρ K c (pSnd k)); iexact HR
    isplitr; · iapply (inv_at m ρ K (ahead c k) (pRcv k)); iexact HR
    isplitl [Hs]; · rw [flat_set]; iexact Hs
    isplitl [Hd]; · rw [flat_set]; iexact Hd
    isplitl [HO]; · iexact HO
    isplitl [HtS]; · iexact HtS
    isplitr; · iapply (reached_at m ρ K c (pSnd k)); iexact HR
    isplitl [HtR]; · iexact HtR
    iapply (reached_at m ρ K (ahead c k) (pRcv k)); iexact HR
  iintro ⟨Hc, HO⟩
  iapply Hk
  isplitl [HO]; · iexists W; iexact HO
  isplitl [Ha]; · iexact Ha
  iexact Hc

/-! ## Receiving -/

/-- The whole of the accumulator, as a rectangle of it. -/
abbrev outR : Rect S128x1024 := Rect.unit (s := S128x1024) ![0, 0] S128x1024.size inb_S128x1024_S128x1024_0_0

omit [FloatOps F] in
/-- Loading the whole accumulator gives its contents, -/
theorem read_out (f : (cc0_stg2_0 : Ref sig .tc).ty.Contents (Elt F)) : oM.view.readAt (Elt F) outR.toLoadRect f = f :=
  Memref.readAt_unit_zero (Elt F) cc0_stg2_0 hz2 _ f
omit [FloatOps F] in
/-- and storing over the whole of it leaves what was stored. -/
theorem write_out (f w : (cc0_stg2_0 : Ref sig .tc).ty.Contents (Elt F)) : (oM.access outR).write (Elt F) f w Finset.univ = w :=
  Memref.write_access_unit_zero_univ (Elt F) cc0_stg2_0 hz2 _ f w

/-- Waiting for the copy from `k` places behind, and adding the slot it filled to the accumulator. -/
theorem recv_step (K : Dev nD × Place → ℕ) (c : Dev nD) (k : Fin 8) (hk : k ≠ 0) (X : (cc0_stg2_0 : Ref sig .tc).ty.Contents (Elt F))
    {w : Vec F S128x1024 .f32 → Vec F S1x128x1024 .bf16 → Vec F S128x1024 .f32} (hw : w = k0_pay11)
    {hsrc : (flat sndM k).view.WordExact} {hdst : (flat rcvM k).view.WordExact}
    {hl₁ hl₃ : oM.view.LoadsAt outR.toLoadRect} {hl₂ : rcvM.view.LoadsAt (slotR k).toLoadRect} {hx : (oM.access outR).Stores Finset.univ}
    {hm : (Finset.univ : Finset outR.shape.Idx) = Finset.univ ∨ ∀ a, outR.stride a = 1}
    {α : Type} {Q : α → sProp 𝕄} {kk : PUnit → Prog (TpuEff nD τ sig (Elt F) Λ₀ .tc) α} :
    records m ρ K
      ⊢ iprop(due c 0 -∗ held c cc0_stg2_0 X -∗ recvKit c k
        -∗ ((due c 0 ∗ held c cc0_stg2_0 (k0_pay11 X (partFor m ρ (behind c k) c)) ∗ recvDone c k) -∗ Runs c (kk ⟨⟩) Q)
          -∗ Runs c (.op (.waitDma2 (rcvS k) (flat sndM k) (flat rcvM k) hsrc hdst) fun _ =>
              .op (.load oM outR.toLoadRect hl₁) fun o =>
              .op (.load rcvM (slotR k).toLoadRect hl₂) fun x =>
              .op (.load oM outR.toLoadRect hl₃) fun _ =>
              .op (.store oM outR (w o x) Finset.univ hx hm) kk) Q) := by
  subst hw
  unfold due recvKit recvDone
  iintro #HR ⟨%W, HO⟩ Ho ⟨Hc, Hat⟩ Hk
  iapply (Rounds.wp_wait_rest_token 𝒱₀ EX (sched m ρ) (c : Thread nD τ) none (κ := K (c, pRcv k))
      (wpE_waitDma2_eq 𝒱₀ (c : Thread nD τ) none Set.univ) (Set.mem_univ _) () (O := 0) (W := W) (R := 0) (m := 0) (T := ∅)
      (by rw [Nat.zero_add]; exact (expect_rcv m ρ c k hk).symm)) $$ [Hc HO Hat]
  · isplitr; · iapply (inv_at m ρ K c (pRcv k)); iexact HR
    isplitl [Hc]; · iexact Hc
    isplitl [HO]; · iexact HO
    isplitr; · rw [MayWait_zero]; iempintro
    iexact Hat
  iintro ⟨HO, Hat, -, Hpay⟩
  ihave Hp := (Entails.of_eq (rest_rcv m ρ c k hk)) $$ Hpay
  imod (Rounds.cell_close EX (sched m ρ) (Set.mem_univ (K (c, pRcv k))) (fun h => h) (R := 0 + 1) (duties_later m ρ (rcvCell c k))) $$ [Hat] with Hz
  · isplitr; · iapply (inv_at m ρ K c (pRcv k)); iexact HR
    iexact Hat
  unfold slotHolds
  icases Hp with ⟨%f, %hf, Hs⟩
  iapply (wp_load 𝒱₀ (c : Thread nD τ) none Set.univ (m := oM) (Finset.subset_univ _)) $$ Ho; iintro Ho
  iapply (wp_load 𝒱₀ (c : Thread nD τ) none Set.univ (m := rcvM) (slot_setOn rcvM k)) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := outR) (Mk := Finset.univ) (Finset.subset_univ _)) $$ Ho; iintro Ho
  rw [write_out, load_slot, hf, read_out]
  iapply Hk
  isplitl [HO]; · iexists _; iexact HO
  isplitl [Ho]; · iexact Ho
  isplitl [Hs]; · iapply (slotAny_intro rcvM c k f); iexact Hs
  iexact Hz

/-! ## Taking the send slots back -/

/-- Waiting until the copy at distance `k` has left its send slot. -/
theorem back_step (K : Dev nD × Place → ℕ) (c : Dev nD) (k : Fin 8) (hk : k ≠ 0)
    {hsrc : (flat rcvM k).view.WordExact} {hdst : (flat sndM k).view.WordExact}
    {α : Type} {Q : α → sProp 𝕄} {kk : PUnit → Prog (TpuEff nD τ sig (Elt F) Λ₀ .tc) α} :
    records m ρ K
      ⊢ iprop(due c 0 -∗ cred (tallyAt (sndCell c k) () N) -∗ atPos EX (sndCell c k) 0 (∅ : Finset (Fin 8)) 0
        -∗ ((due c 0 ∗ sendDone c k) -∗ Runs c (kk ⟨⟩) Q)
          -∗ Runs c (.op (.waitDma2 (sndS k) (flat rcvM k) (flat sndM k) hsrc hdst) kk) Q) := by
  unfold due sendDone
  iintro #HR ⟨%W, HO⟩ Hc Hat Hk
  iapply (Rounds.wp_wait_rest_token 𝒱₀ EX (sched m ρ) (c : Thread nD τ) none (κ := K (c, pSnd k))
      (wpE_waitDma2_eq 𝒱₀ (c : Thread nD τ) none Set.univ) (Set.mem_univ _) () (O := 0) (W := W) (R := 0) (m := 0) (T := ∅)
      (by rw [Nat.zero_add]; exact (expect_snd m ρ c k hk).symm)) $$ [Hc HO Hat]
  · isplitr; · iapply (inv_at m ρ K c (pSnd k)); iexact HR
    isplitl [Hc]; · iexact Hc
    isplitl [HO]; · iexact HO
    isplitr; · rw [MayWait_zero]; iempintro
    iexact Hat
  iintro ⟨HO, Hat, -, Hpay⟩
  ihave Hp := (Entails.of_eq (rest_snd m ρ c k hk)) $$ Hpay
  imod (Rounds.cell_close EX (sched m ρ) (Set.mem_univ (K (c, pSnd k))) (fun h => h) (R := 0 + 1) (duties_later m ρ (sndCell c k))) $$ [Hat] with Hz
  · isplitr; · iapply (inv_at m ρ K c (pSnd k)); iexact HR
    iexact Hat
  iapply Hk
  isplitl [HO]; · iexists _; iexact HO
  isplitl [Hp] <;> iassumption

end Cert.Exchange

end
-- ==== Proof.Body.lean ====
/-
# The kernel's body on one device

The body at a symbolic device, run step by step: seven signals, the barrier wait, seven partial products sent, the device's
own partial product stored, seven slots received and added, seven send slots taken back.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-! ## The words the program computes, in closed form -/

/-- The barrier is signalled at distances 1 to 7, -/
theorem signal_devs : ∀ c : Dev nD,
    (⟨k0_dev1 c, k0_dev1_lt c⟩ : Dev nD) = ahead c 1 ∧ (⟨k0_dev2 c, k0_dev2_lt c⟩ : Dev nD) = ahead c 2
    ∧ (⟨k0_dev3 c, k0_dev3_lt c⟩ : Dev nD) = ahead c 3 ∧ (⟨k0_dev4 c, k0_dev4_lt c⟩ : Dev nD) = ahead c 4
    ∧ (⟨k0_dev5 c, k0_dev5_lt c⟩ : Dev nD) = ahead c 5 ∧ (⟨k0_dev6 c, k0_dev6_lt c⟩ : Dev nD) = ahead c 6
    ∧ (⟨k0_dev7 c, k0_dev7_lt c⟩ : Dev nD) = ahead c 7 := by decide +kernel

/-- the copies are addressed at distances 1 to 7, -/
theorem copy_devs : ∀ c : Dev nD,
    (⟨k0_dev8 c, k0_dev8_lt c⟩ : Dev nD) = ahead c 1 ∧ (⟨k0_dev9 c, k0_dev9_lt c⟩ : Dev nD) = ahead c 2
    ∧ (⟨k0_dev10 c, k0_dev10_lt c⟩ : Dev nD) = ahead c 3 ∧ (⟨k0_dev11 c, k0_dev11_lt c⟩ : Dev nD) = ahead c 4
    ∧ (⟨k0_dev12 c, k0_dev12_lt c⟩ : Dev nD) = ahead c 5 ∧ (⟨k0_dev13 c, k0_dev13_lt c⟩ : Dev nD) = ahead c 6
    ∧ (⟨k0_dev14 c, k0_dev14_lt c⟩ : Dev nD) = ahead c 7 := by decide +kernel

/-- and the rows of `A` loaded for distance `k` are those of the device `k` places ahead. -/
theorem row_offs : ∀ (c : Dev nD) (k : Fin 8), k ≠ 0 → k0_off1 c (BitVec.ofNat 32 k.val) = ![128 * (ahead c k).val, 0] := by
  decide +kernel

/-! ## Families over the distances, written out -/

omit [FloatOps F] in
/-- A family over the distances other than 0 is its seven members. -/
theorem seven (Φ : Fin 8 → sProp 𝕄) :
    bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

/-! ## What the body starts from and ends with -/

/-- At distance `k`: what the signal, the copy out and the copy in need, and the place at the send cell. -/
def kit (c : Dev nD) (k : Fin 8) : sProp 𝕄 :=
  iprop(sigKit c k ∗ sendKit c k ∗ recvKit c k ∗ atPos EX (sndCell c k) 0 (∅ : Finset (Fin 8)) 0)

/-- The unused slots and cells at distance 0. -/
def spare (c : Dev nD) : sProp 𝕄 :=
  iprop((slotAny sndM c 0 ∗ atPos EX (sndCell c 0) 0 (∅ : Finset (Fin 8)) 0) ∗ (slotAny rcvM c 0 ∗ atPos EX (rcvCell c 0) 0 (∅ : Finset (Fin 8)) 0))

/-- Device `c` at the body's start, at given names, -/
def stage (K : Dev nD × Place → ℕ) (c : Dev nD) : sProp 𝕄 :=
  iprop(records m ρ K ∗ levAts L lv ∗ cred (tallyAt (barCell c) () 7) ∗ atPos EX (barCell c) 0 (∅ : Finset (Fin 8)) 0
    ∗ spare c ∗ bigSep (Finset.univ.erase 0) (kit c))
/-- at some names, -/
def Φ₀ (c : Dev nD) : sProp 𝕄 := iprop(∃ K, stage m ρ K c)

/-- and at its end: every slot back, every semaphore at zero. -/
def Φ₁ (c : Dev nD) : sProp 𝕄 :=
  iprop((bigSep Finset.univ fun k => sendDone (F := F) c k) ∗ (bigSep Finset.univ fun k => recvDone (F := F) c k) ∗ semVal (barCell c) 0)

/-- The cells at distance 0 and those at the others make up the end. -/
theorem phi1_intro (c : Dev nD) :
    iprop((sendDone (F := F) c 0 ∗ bigSep (Finset.univ.erase 0) fun k => sendDone (F := F) c k)
      ∗ (recvDone (F := F) c 0 ∗ bigSep (Finset.univ.erase 0) fun k => recvDone (F := F) c k) ∗ semVal (barCell c) 0) ⊢ (Φ₁ c : sProp 𝕄) := by
  unfold Φ₁
  rw [bigSep_univ_at (fun k => sendDone (F := F) c k) 0, bigSep_univ_at (fun k => recvDone (F := F) c k) 0]

/-- The pipeline's data for one launch of the kernel. -/
def dats (_ : Fin 1) (c : Dev nD) : Dat τ (Elt F) Unit ℕ UA ℕ cfg0 c where
  A w := (s₀ m ρ).mem ((cfg0.win w).arr.view.loc (c : Thread nD τ))
  after w _ := match w with
    | ⟨0, _⟩ => aAt m ρ c
    | ⟨1, _⟩ => bAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- What the body starts from: its share of the exchange, all its dues, and its three staging buffers, -/
def bodyPre (K : Dev nD × Place → ℕ) (c : Dev nD) (X : (cc0_stg2_0 : Ref sig .tc).ty.Contents (Elt F)) : sProp 𝕄 :=
  iprop(stage m ρ K c ∗ due c (O₀ c) ∗ held c cc0_stg0_0 (aAt m ρ c) ∗ held c cc0_stg1_0 (bAt m ρ c) ∗ held c cc0_stg2_0 X)
/-- and what it leaves: nothing due, the arguments' buffers as they were, and the result in the third. -/
def bodyPost (c : Dev nD) : sProp 𝕄 :=
  iprop(Φ₁ c ∗ due c 0 ∗ held c cc0_stg0_0 (aAt m ρ c) ∗ held c cc0_stg1_0 (bAt m ρ c) ∗ held c cc0_stg2_0 (outAt m ρ c))

/-! ## The body -/

omit [FloatOps F] in
/-- Loading the whole of the staged rows of `B` gives their contents. -/
theorem read_b (f : (cc0_stg1_0 : Ref sig .tc).ty.Contents (Elt F)) :
    bM.view.readAt (Elt F) (Rect.unit (s := S512x1024) ![0, 0] S512x1024.size inb_S512x1024_S512x1024_0_0).toLoadRect f = f :=
  Memref.readAt_unit_zero (Elt F) cc0_stg1_0 hz2 _ f

/-- The device's own rows of `A`, as the program addresses them. -/
theorem read_own (c : Dev nD) (f : (cc0_stg0_0 : Ref sig .tc).ty.Contents (Elt F)) :
    aM.view.readAt (Elt F) (Rect.unit (s := S1024x512) (k0_off2 c) S128x512.size (k0_off2_inb c)).toLoadRect f = rowsOf f c := by
  have h : ∀ (off : Fin 2 → ℕ) (hin : ∀ a, off a + S128x512.size a ≤ S1024x512.size a), off = ![128 * c.val, 0] →
      aM.view.readAt (Elt F) (Rect.unit (s := S1024x512) off S128x512.size hin).toLoadRect f = rowsOf f c := by
    intro off hin e; subst e; rfl
  exact h _ _ (k0_off2_eq c)

set_option maxHeartbeats 4000000 in
set_option maxRecDepth 8000 in
/-- The body runs on device `c` from `bodyPre` to `bodyPost`. -/
theorem body_runs (K : Dev nD × Place → ℕ) (c : Dev nD) (X : (cc0_stg2_0 : Ref sig .tc).ty.Contents (Elt F)) (Kt : PUnit → sProp 𝕄) :
    iprop(bodyPre m ρ K c X ∗ (bodyPost m ρ c -∗ Kt ⟨⟩))
      ⊢ Runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  obtain ⟨s1, s2, s3, s4, s5, s6, s7⟩ := signal_devs c
  obtain ⟨d1, d2, d3, d4, d5, d6, d7⟩ := copy_devs c
  have ro := row_offs c
  unfold bodyPre stage spare
  rw [seven]
  unfold kit O₀
  iintro ⟨⟨⟨#HR, #Hlev, HcB, HatB, ⟨⟨Hs0, HpS0⟩, ⟨Hr0, HpR0⟩⟩, ⟨Hg1, Hn1, Hv1, Hp1⟩, ⟨Hg2, Hn2, Hv2, Hp2⟩, ⟨Hg3, Hn3, Hv3, Hp3⟩,
    ⟨Hg4, Hn4, Hv4, Hp4⟩, ⟨Hg5, Hn5, Hv5, Hp5⟩, ⟨Hg6, Hn6, Hv6, Hp6⟩, ⟨Hg7, Hn7, Hv7, Hp7⟩⟩, HO, Ha, Hb, Hout⟩, Hk⟩
  -- the unused cells close at once
  imod (Rounds.cell_close EX (sched m ρ) (Set.mem_univ (K (c, pSnd 0))) (fun h => h) (R := 0) (duties_unused m ρ c (.inl 0) (.inl rfl))) $$ [HpS0] with Hz0
  · isplitr; · iapply (inv_at m ρ K c (pSnd 0)); iexact HR
    iexact HpS0
  imod (Rounds.cell_close EX (sched m ρ) (Set.mem_univ (K (c, pRcv 0))) (fun h => h) (R := 0) (duties_unused m ρ c (.inr 0) (.inr rfl))) $$ [HpR0] with Hy0
  · isplitr; · iapply (inv_at m ρ K c (pRcv 0)); iexact HR
    iexact HpR0
  -- the signals and the barrier wait
  iapply (signal_step m ρ K c _ 1 (by decide) s1 [2, 3, 4, 5, 6, 7] rfl) $$ HR HO Hg1; iintro HO
  iapply (signal_step m ρ K c _ 2 (by decide) s2 [3, 4, 5, 6, 7] rfl) $$ HR HO Hg2; iintro HO
  iapply (signal_step m ρ K c _ 3 (by decide) s3 [4, 5, 6, 7] rfl) $$ HR HO Hg3; iintro HO
  iapply (signal_step m ρ K c _ 4 (by decide) s4 [5, 6, 7] rfl) $$ HR HO Hg4; iintro HO
  iapply (signal_step m ρ K c _ 5 (by decide) s5 [6, 7] rfl) $$ HR HO Hg5; iintro HO
  iapply (signal_step m ρ K c _ 6 (by decide) s6 [7] rfl) $$ HR HO Hg6; iintro HO
  iapply (signal_step m ρ K c _ 7 (by decide) s7 [] rfl) $$ HR HO Hg7; iintro HO
  rw [show oweB c [] = oweR c [1, 2, 3, 4, 5, 6, 7] from rfl]
  iapply (barrier_step m ρ K c [1, 2, 3, 4, 5, 6, 7] rfl) $$ HR Hlev HO HcB HatB
  rw [seven]
  iintro ⟨HO, HzB, ⟨Hl1, Hl2, Hl3, Hl4, Hl5, Hl6, Hl7⟩⟩
  -- the rows of `B`, and the partial products sent
  iapply (wp_load 𝒱₀ (c : Thread nD τ) none Set.univ (m := bM) (Finset.subset_univ _)) $$ Hb; iintro Hb
  rw [read_b]
  iapply (send_step m ρ K c _ 1 (by decide) d1 [2, 3, 4, 5, 6, 7] (ro 1 (by decide)) (w := fun v => k0_pay2 (bAt m ρ c) v) rfl) $$ HR HO Ha Hn1 Hl1
  iintro ⟨HO, Ha, Hq1⟩
  iapply (send_step m ρ K c _ 2 (by decide) d2 [3, 4, 5, 6, 7] (ro 2 (by decide)) (w := fun v => k0_pay3 (k0_pay1 (bAt m ρ c)) v) rfl) $$ HR HO Ha Hn2 Hl2
  iintro ⟨HO, Ha, Hq2⟩
  iapply (send_step m ρ K c _ 3 (by decide) d3 [4, 5, 6, 7] (ro 3 (by decide)) (w := fun v => k0_pay4 (k0_pay1 (bAt m ρ c)) v) rfl) $$ HR HO Ha Hn3 Hl3
  iintro ⟨HO, Ha, Hq3⟩
  iapply (send_step m ρ K c _ 4 (by decide) d4 [5, 6, 7] (ro 4 (by decide)) (w := fun v => k0_pay5 (k0_pay1 (bAt m ρ c)) v) rfl) $$ HR HO Ha Hn4 Hl4
  iintro ⟨HO, Ha, Hq4⟩
  iapply (send_step m ρ K c _ 5 (by decide) d5 [6, 7] (ro 5 (by decide)) (w := fun v => k0_pay6 (k0_pay1 (bAt m ρ c)) v) rfl) $$ HR HO Ha Hn5 Hl5
  iintro ⟨HO, Ha, Hq5⟩
  iapply (send_step m ρ K c _ 6 (by decide) d6 [7] (ro 6 (by decide)) (w := fun v => k0_pay7 (k0_pay1 (bAt m ρ c)) v) rfl) $$ HR HO Ha Hn6 Hl6
  iintro ⟨HO, Ha, Hq6⟩
  iapply (send_step m ρ K c _ 7 (by decide) d7 [] (ro 7 (by decide)) (w := fun v => k0_pay9 (k0_pay8 (k0_pay1 (bAt m ρ c)) v)) rfl) $$ HR HO Ha Hn7 Hl7
  iintro ⟨HO, Ha, Hq7⟩
  -- its own partial product
  iapply (wp_load 𝒱₀ (c : Thread nD τ) none Set.univ (m := aM) (Finset.subset_univ _)) $$ Ha; iintro Ha
  rw [read_own]
  iapply (wp_load 𝒱₀ (c : Thread nD τ) none Set.univ (m := oM) (Finset.subset_univ _)) $$ Hout; iintro Hout
  iapply (wp_store 𝒱₀ (c : Thread nD τ) none Set.univ (m := oM) (r := outR) (Mk := Finset.univ) (Finset.subset_univ _)) $$ Hout; iintro Hout
  rw [write_out]
  -- the slots received
  rw [show oweR c [] = 0 from rfl]
  iapply (recv_step m ρ K c 1 (by decide) _ (w := k0_pay11) rfl) $$ HR HO Hout Hv1; iintro ⟨HO, Hout, Hv1⟩
  iapply (recv_step m ρ K c 2 (by decide) _ (w := k0_pay12) rfl) $$ HR HO Hout Hv2; iintro ⟨HO, Hout, Hv2⟩
  iapply (recv_step m ρ K c 3 (by decide) _ (w := k0_pay13) rfl) $$ HR HO Hout Hv3; iintro ⟨HO, Hout, Hv3⟩
  iapply (recv_step m ρ K c 4 (by decide) _ (w := k0_pay14) rfl) $$ HR HO Hout Hv4; iintro ⟨HO, Hout, Hv4⟩
  iapply (recv_step m ρ K c 5 (by decide) _ (w := k0_pay15) rfl) $$ HR HO Hout Hv5; iintro ⟨HO, Hout, Hv5⟩
  iapply (recv_step m ρ K c 6 (by decide) _ (w := k0_pay16) rfl) $$ HR HO Hout Hv6; iintro ⟨HO, Hout, Hv6⟩
  iapply (recv_step m ρ K c 7 (by decide) _ (w := k0_pay17) rfl) $$ HR HO Hout Hv7; iintro ⟨HO, Hout, Hv7⟩
  -- the send slots taken back
  iapply (back_step m ρ K c 1 (by decide)) $$ HR HO Hq1 Hp1; iintro ⟨HO, Hp1⟩
  iapply (back_step m ρ K c 2 (by decide)) $$ HR HO Hq2 Hp2; iintro ⟨HO, Hp2⟩
  iapply (back_step m ρ K c 3 (by decide)) $$ HR HO Hq3 Hp3; iintro ⟨HO, Hp3⟩
  iapply (back_step m ρ K c 4 (by decide)) $$ HR HO Hq4 Hp4; iintro ⟨HO, Hp4⟩
  iapply (back_step m ρ K c 5 (by decide)) $$ HR HO Hq5 Hp5; iintro ⟨HO, Hp5⟩
  iapply (back_step m ρ K c 6 (by decide)) $$ HR HO Hq6 Hp6; iintro ⟨HO, Hp6⟩
  iapply (back_step m ρ K c 7 (by decide)) $$ HR HO Hq7 Hp7; iintro ⟨HO, Hp7⟩
  unfold Runs
  rw [wp_ret]; imodintro
  iapply Hk
  unfold bodyPost
  isplitr [HO Ha Hb Hout]
  · iapply (phi1_intro c)
    rw [seven, seven]
    isplitl [Hs0 Hz0 Hp1 Hp2 Hp3 Hp4 Hp5 Hp6 Hp7]
    · isplitl [Hs0 Hz0]
      · unfold sendDone; isplitl [Hs0]; · iexact Hs0
        iexact Hz0
      isplitl [Hp1]; · iexact Hp1
      isplitl [Hp2]; · iexact Hp2
      isplitl [Hp3]; · iexact Hp3
      isplitl [Hp4]; · iexact Hp4
      isplitl [Hp5]; · iexact Hp5
      isplitl [Hp6] <;> iassumption
    isplitr [HzB]
    · isplitl [Hr0 Hy0]
      · unfold recvDone; isplitl [Hr0]; · iexact Hr0
        iexact Hy0
      isplitl [Hv1]; · iexact Hv1
      isplitl [Hv2]; · iexact Hv2
      isplitl [Hv3]; · iexact Hv3
      isplitl [Hv4]; · iexact Hv4
      isplitl [Hv5]; · iexact Hv5
      isplitl [Hv6] <;> iassumption
    iexact HzB
  isplitl [HO]; · iexact HO
  isplitl [Ha]; · iexact Ha
  isplitl [Hb]; · iexact Hb
  iexact Hout

/-! ## The pipeline's obligation -/

/-- The launch's one grid point. -/
abbrev pt₀ : Fin cfg0.N := ⟨0, by decide⟩

/-- At the grid point the first staging buffer holds the device's columns of `A`, -/
theorem before_a (c : Dev nD) (d) : (dats m ρ 0 c).before (0 : Fin 3) pt₀ d = aAt m ρ c := by
  unfold Dat.before; rw [if_pos (fetch0_0 pt₀)]; rfl
/-- and the second its rows of `B`. -/
theorem before_b (c : Dev nD) (d) : (dats m ρ 0 c).before (1 : Fin 3) pt₀ d = bAt m ρ c := by
  unfold Dat.before; rw [if_pos (fetch0_1 pt₀)]; rfl

/-- A staging buffer held whole, its contents named by an equation. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a staging buffer is holding it whole. -/
theorem owns_staged (c : Dev nD) (b : Ref sig .tc) (X : b.ty.Contents (Elt F)) :
    (owns (Ix := Unit) (Name := ℕ) (U := UA) (Lvl := ℕ) (c : Thread nD τ) (Memref.whole b) fullShare X : sProp 𝕄) = stg c b X := by
  unfold owns; simp only [Memref.view_whole, View.read_whole, View.set_whole]

/-- What the pipeline gives the body at the grid point, written out, -/
def obligPre (c : Dev nD) : sProp 𝕄 :=
  iprop(Φ₀ m ρ c ∗ (dats m ρ 0 c).owesAt () pt₀.castSucc
    ∗ (∃ d, stg c cc0_stg0_0 ((dats m ρ 0 c).before (0 : Fin 3) pt₀ d))
    ∗ (∃ d, stg c cc0_stg1_0 ((dats m ρ 0 c).before (1 : Fin 3) pt₀ d))
    ∗ (∃ d, stg c cc0_stg2_0 ((dats m ρ 0 c).before (2 : Fin 3) pt₀ d)))
/-- and what it asks back. -/
def obligPost (c : Dev nD) : sProp 𝕄 :=
  iprop(Φ₁ c ∗ (dats m ρ 0 c).owesAt () pt₀.succ ∗ stg c cc0_stg0_0 (aAt m ρ c) ∗ stg c cc0_stg1_0 (bAt m ρ c) ∗ stg c cc0_stg2_0 (outAt m ρ c))

set_option maxRecDepth 4000 in
/-- The obligation the pipeline leaves for the launch's one grid point. -/
theorem body_obligation (c : Dev nD) : BodyObligation (dats m ρ 0 c) (defs₀ (F := F)) 𝒱₀ () Set.univ := fun t => by
  rw [show t = pt₀ from (fin_N0 t).trans (fin_N0 pt₀).symm, bigSep_W0, bigSep_W0]
  simp only [owns_staged]
  show obligPre m ρ c ⊢ Runs c (cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3) (fun _ => obligPost m ρ c)
  unfold obligPre Φ₀
  iintro ⟨⟨%K, Hst⟩, Ho, ⟨%x, %g0, %h0, Ha⟩, ⟨%y, %g1, %h1, Hb⟩, ⟨%z, %g2, %h2, Hout⟩⟩
  rw [before_a] at h0
  rw [before_b] at h1
  subst h0 h1
  unfold Dat.owesAt Pipeline.owesWithin
  icases Ho with ⟨%W, %hW, HO⟩
  iapply (body_runs m ρ K c g2 fun _ => obligPost m ρ c)
  unfold bodyPre due
  isplitr []
  · isplitl [Hst]; · iexact Hst
    isplitl [HO]; · iexists W; iexact HO
    isplitl [Ha]; · iexact Ha
    isplitl [Hb] <;> iassumption
  unfold bodyPost obligPost due Dat.owesAt Pipeline.owesWithin
  iintro ⟨HΦ, ⟨%W', HO⟩, Ha, Hb, Hout⟩
  isplitl [HΦ]; · iexact HΦ
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

end Cert.Exchange

end
-- ==== Proof.Launch.lean ====
/-
# The launch and the run

Minting the exchange's cells and duty tokens, handing every device its share, the credits the launch holds, and the run of
the whole program over any float values.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-! ## Cells and tokens -/

/-- The kernel's own semaphores lie in the launch's scope, are all different, and are none of the windows'. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- Different devices or places have different cells. -/
theorem cell_injective : Function.Injective (cell : Dev nD × Place → GSem nD τ sig) := fun x y h =>
  Prod.ext (congrArg (fun g : GSem nD τ sig => g.1.1) h) (csem_injective (congrArg Prod.snd h))

/-- The duties that are minted: one at a barrier for each distance, one at each send and receive cell. -/
abbrev Duty : Type := Fin 8 ⊕ (Fin 8 ⊕ Fin 8)
/-- Where a duty lies, and its number there. -/
def placeOf : Duty → Place × Fin 8
  | .inl d => (pBar, d)
  | .inr p => (.inr p, 0)

/-- Different duties lie at different places or have different numbers. -/
theorem placeOf_injective : Function.Injective placeOf := by
  rintro (d | p) (d' | p') h <;> simp_all [placeOf]

/-- The token of a device's duty: its cell, its round, its number. -/
def tokenOf (cj : Dev nD × Duty) : GSem nD τ sig × ℕ × Fin 8 := (cell (cj.1, (placeOf cj.2).1), 0, (placeOf cj.2).2)

/-- Different duties have different tokens. -/
theorem tokenOf_injective : Function.Injective tokenOf := by
  rintro ⟨c, j⟩ ⟨c', j'⟩ h
  have h1 := cell_injective (congrArg Prod.fst h)
  have h2 : (placeOf j).2 = (placeOf j').2 := congrArg (fun x : GSem nD τ sig × ℕ × Fin 8 => x.2.2) h
  exact Prod.ext (show c = c' from congrArg Prod.fst h1) (placeOf_injective (Prod.ext (congrArg Prod.snd h1) h2))

/-- The cells of all devices, -/
def allCells : Finset (GSem nD τ sig) := Finset.univ.map ⟨cell, cell_injective⟩
/-- and the tokens of all duties. -/
def allToks : Finset (GSem nD τ sig × ℕ × Fin 8) := Finset.univ.map ⟨tokenOf, tokenOf_injective⟩

/-- The ghost state the launch starts from: the pipeline's part and the exchange's. -/
def u₀ : UA := (initOf (Pipeline.cells cfgs cellOf_inj) (Pipeline.launchToks cfgs cellOf_inj), initOf allCells allToks)

/-- The tokens of the duties at device `c`'s cells, -/
def ownToks (c : Dev nD) : sProp 𝕄 :=
  iprop((bigSep Finset.univ fun d : Fin 8 => dutyTok EX (barCell c) 0 d)
    ∗ (bigSep Finset.univ fun k : Fin 8 => dutyTok EX (sndCell c k) 0 (0 : Fin 8))
    ∗ bigSep Finset.univ fun k : Fin 8 => dutyTok EX (rcvCell c k) 0 (0 : Fin 8))
/-- and of the duties device `c` pays. -/
def payToks (c : Dev nD) : sProp 𝕄 :=
  iprop((bigSep Finset.univ fun k : Fin 8 => dutyTok EX (barCell (ahead c k)) 0 (opp k))
    ∗ (bigSep Finset.univ fun k : Fin 8 => dutyTok EX (sndCell c k) 0 (0 : Fin 8))
    ∗ bigSep Finset.univ fun k : Fin 8 => dutyTok EX (rcvCell (ahead c k) k) 0 (0 : Fin 8))

/-- Device `c`'s places at its cells. -/
def places (c : Dev nD) : sProp 𝕄 := bigSep Finset.univ fun p : Place => atPos EX (cell (c, p)) 0 (∅ : Finset (Fin 8)) 0

/-- What minting gives at device `c`, -/
def G (c : Dev nD) : sProp 𝕄 :=
  iprop((bigSep Finset.univ fun p : Place => roundState EX (sched m ρ) (cell (c, p)) 0)
    ∗ (bigSep Finset.univ fun p : Place => reached EX (cell (c, p)) 0) ∗ places c ∗ ownToks c)
/-- and what device `c` has of it once the cells are in their invariants and the tokens dealt. -/
def G' (c : Dev nD) : sProp 𝕄 := iprop(∃ K, records m ρ K ∗ places c ∗ payToks c)

/-- The exchange's part of the initial ghost state gives every device its cells' states, its places and its tokens. -/
theorem mint : BI.own (EX (initOf allCells allToks)) ⊢ (|==> bigSep Finset.univ (G m ρ) : sProp 𝕄) := by
  have hC (Φ : GSem nD τ sig → sProp 𝕄) : bigSep allCells Φ = bigSep Finset.univ fun c : Dev nD => bigSep Finset.univ fun p : Place => Φ (cell (c, p)) := by
    unfold allCells; rw [bigSep_map, bigSep_univ_prod]; rfl
  have hT : bigSep allToks (fun x => (dutyTok EX x.1 x.2.1 x.2.2 : sProp 𝕄)) = bigSep Finset.univ fun c : Dev nD => ownToks c := by
    unfold allToks; rw [bigSep_map, bigSep_univ_prod]
    refine bigSep_congr fun c _ => ?_
    rw [BI.bigSep_univ_sum, BI.bigSep_univ_sum]; rfl
  iintro H
  imod (Rounds.fund EX (sched m ρ) allCells allToks) $$ H with ⟨Hst, Hr, Hat, Htok⟩
  imodintro
  ihave Hst := (Entails.of_eq (hC fun g => roundState EX (sched m ρ) g 0)) $$ Hst
  ihave Hr := (Entails.of_eq (hC fun g => reached EX g 0)) $$ Hr
  ihave Hat := (Entails.of_eq (hC fun g => atPos EX g 0 ∅ 0)) $$ Hat
  ihave Htok := (Entails.of_eq hT) $$ Htok
  unfold G; simp only [bigSep_sep']
  isplitl [Hst]; · iexact Hst
  isplitl [Hr]; · iexact Hr
  isplitl [Hat]; · iexact Hat
  iexact Htok

/-! ## The semaphores at zero -/

omit [FloatOps F] in
/-- The kernel's own semaphores at zero are the send and receive cells at zero, -/
theorem ownSems0_eq (c : Dev nD) : (Pipeline.ownSems0 (Ix := Unit) (Name := ℕ) (U := UA) (Lvl := ℕ) (Val := Elt F) (τ := τ) osem c : sProp 𝕄)
    = iprop((bigSep Finset.univ fun k : Fin 8 => semVal (sndCell c k) 0) ∗ bigSep Finset.univ fun k : Fin 8 => semVal (rcvCell c k) 0) := by
  unfold Pipeline.ownSems0; rw [BI.bigSep_univ_sum]; rfl
omit [FloatOps F] in
/-- and the one semaphore outside its scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Over all places is the barrier and the kernel's own cells. -/
theorem bigSep_place (Φ : Place → sProp 𝕄) :
    bigSep Finset.univ Φ = iprop(Φ pBar ∗ (bigSep Finset.univ fun k : Fin 8 => Φ (pSnd k)) ∗ bigSep Finset.univ fun k : Fin 8 => Φ (pRcv k)) := by
  rw [BI.bigSep_univ_sum, BI.bigSep_univ_sum]
  rw [show bigSep Finset.univ (fun a : Unit => Φ (.inl a)) = Φ pBar from bigSep_singleton]
  rfl

omit [FloatOps F] in
/-- Together they are all the device's cells at zero. -/
theorem sems0 (c : Dev nD) :
    iprop(Pipeline.ownSems0 (Ix := Unit) (Name := ℕ) (U := UA) (Lvl := ℕ) (Val := Elt F) (τ := τ) osem c ∗ unscopedSems0 c)
      ⊢ (bigSep Finset.univ fun p : Place => semVal (cell (c, p)) 0 : sProp 𝕄) := by
  rw [ownSems0_eq, unscopedSems0_eq, bigSep_place]
  iintro ⟨⟨HS, HV⟩, HB⟩
  isplitl [HB]; · iexact HB
  isplitl [HS]; · iexact HS
  iexact HV

/-! ## Putting the cells in their invariants and dealing the tokens -/

/-- Cells at zero in their first state go into their invariants. -/
theorem place_alloc (c : Dev nD) :
    iprop((bigSep Finset.univ fun p : Place => semVal (cell (c, p)) 0) ∗ bigSep Finset.univ fun p : Place => roundState EX (sched m ρ) (cell (c, p)) 0)
      ⊢ (|={Set.univ}=> bigSep Finset.univ fun p : Place => iprop(∃ κ : ℕ, cellInv EX (sched m ρ) κ (cell (c, p))) : sProp 𝕄) := by
  rw [← bigSep_sep']
  exact (bigSep_mono fun p _ => (Rounds.body_intro EX (sched m ρ) (cell (c, p))).trans inv_alloc).trans (bigSep_fupd _ _)

/-- What a device has once its cells are in their invariants. -/
def opened (c : Dev nD) : sProp 𝕄 :=
  iprop((bigSep Finset.univ fun p : Place => iprop(∃ κ : ℕ, cellInv EX (sched m ρ) κ (cell (c, p))))
    ∗ (bigSep Finset.univ fun p : Place => reached EX (cell (c, p)) 0) ∗ places c ∗ ownToks c)

/-- A device's semaphores and minted ghost state put all its cells into their invariants. -/
theorem open_cells (c : Dev nD) :
    iprop(Pipeline.ownSems0 (Ix := Unit) (Name := ℕ) (U := UA) (Lvl := ℕ) (Val := Elt F) (τ := τ) osem c ∗ unscopedSems0 c ∗ G m ρ c)
      ⊢ |={Set.univ}=> opened m ρ c := by
  unfold G opened
  iintro ⟨Ho, Hu, Hst, Hrest⟩
  ihave Hv := (sems0 (F := F) c) $$ [Ho Hu]
  · isplitl [Ho] <;> iassumption
  imod (place_alloc m ρ c) $$ [Hv Hst] with Hinv
  · isplitl [Hv] <;> iassumption
  imodintro
  isplitl [Hinv]; · iexact Hinv
  iexact Hrest

omit [FloatOps F] in
/-- A family over devices and distances may be read `k` places ahead at each distance `k`. -/
theorem around (Φ : Dev nD → Fin 8 → sProp 𝕄) :
    (bigSep Finset.univ fun c => bigSep Finset.univ fun k => Φ c k) = bigSep Finset.univ fun c => bigSep Finset.univ fun k => Φ (ahead c k) k := by
  rw [BI.bigSep_univ_comm Φ, BI.bigSep_univ_comm (fun (c : Dev nD) (k : Fin 8) => Φ (ahead c k) k)]
  exact bigSep_congr fun k _ => BI.bigSep_univ_equiv (turn k) fun c : Dev nD => Φ c k

omit [FloatOps F] in
/-- The tokens go from the devices whose cells they belong to, to the devices that pay them. -/
theorem deal_toks : (bigSep Finset.univ fun c : Dev nD => (ownToks c : sProp 𝕄)) = bigSep Finset.univ fun c : Dev nD => payToks c := by
  unfold ownToks payToks
  simp only [bigSep_sep']
  rw [around fun c k => (dutyTok EX (rcvCell c k) 0 (0 : Fin 8) : sProp 𝕄),
    bigSep_congr (s := Finset.univ) fun (c : Dev nD) _ => BI.bigSep_univ_equiv flip fun d : Fin 8 => (dutyTok EX (barCell c) 0 d : sProp 𝕄),
    around fun c k => (dutyTok EX (barCell c) 0 (flip k) : sProp 𝕄)]
  rfl

/-- The records at some names, with a device's places and tokens, are what it is to have. -/
theorem share_out (K : Dev nD × Place → ℕ) (c : Dev nD) : iprop(records m ρ K ∗ places c ∗ payToks c) ⊢ G' m ρ c := by
  unfold G'
  iintro H; iexists K; iexact H

/-- A fact that may be used again and again can go to every device. -/
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

/-- The devices' invariants become records every device has, and the tokens go to the devices that pay. -/
theorem regroup : (bigSep Finset.univ fun c : Dev nD => opened m ρ c) ⊢ bigSep Finset.univ (G' m ρ) := by
  unfold opened
  simp only [bigSep_sep']
  rw [deal_toks, ← BI.bigSep_univ_prod (fun cp : Dev nD × Place => iprop(∃ κ : ℕ, cellInv EX (sched m ρ) κ (cell cp))),
    ← BI.bigSep_univ_prod (fun cp : Dev nD × Place => (reached EX (cell cp) 0 : sProp 𝕄))]
  iintro ⟨HI, #HR, Hat, Htok⟩
  ihave HK := (BI.bigSep_exists_pi Finset.univ (fun (cp : Dev nD × Place) (κ : ℕ) => (cellInv EX (sched m ρ) κ (cell cp) : sProp 𝕄))) $$ HI
  icases HK with ⟨%K, #HI⟩
  iapply (with_records (R := records m ρ K) fun c => share_out m ρ K c)
  isplitr
  · unfold records; isplitl; · iexact HI
    iexact HR
  · rw [bigSep_sep']
    isplitl [Hat]; · iexact Hat
    iexact Htok

/-- From all devices' semaphores and minted ghost state to what each is to have. -/
theorem glob : (bigSep Finset.univ fun c => iprop(Pipeline.ownSems0 (Ix := Unit) (Name := ℕ) (U := UA) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The credits of the launch -/

/-- What all devices together owe the cell at a place, per device. -/
def dueAt (p : Place) : ℕ := (steps.map fun _ => if p = pBar then 1 else 0).sum + (steps.map fun k => if p = pRcv k then N else 0).sum

/-- Each device pays one cell, all at one distance: every device's cell is paid once. -/
theorem spread (p q : Place) (c : Dev nD) (k : Fin 8) (n : ℕ) :
    ∑ d : Dev nD, (tallyAt (cell (ahead d k, q)) () n : CellTallies nD τ sig Unit) (cell (c, p)) () = if p = q then n else 0 := by
  have h : ∀ d : Dev nD, (tallyAt (cell (ahead d k, q)) () n : CellTallies nD τ sig Unit) (cell (c, p)) ()
      = if d = behind c k then (if p = q then n else 0) else 0 := by
    intro d
    rw [tallyAt_apply]
    by_cases hd : d = behind c k
    · subst hd
      rw [ahead_behind, if_pos rfl]
      by_cases hp : p = q
      · rw [if_pos ⟨by rw [hp], rfl⟩, if_pos hp]
      · rw [if_neg (fun h => hp (congrArg Prod.snd (cell_injective h.1))), if_neg hp]
    · rw [if_neg hd, if_neg fun h => hd (by rw [show c = ahead d k from congrArg Prod.fst (cell_injective h.1), behind_ahead])]
  rw [Finset.sum_congr rfl fun d _ => h d, Finset.sum_ite_eq' Finset.univ (behind c k) fun _ => if p = q then n else 0, if_pos (Finset.mem_univ _)]

/-- All devices' copies at the distances in a list, summed at one cell, -/
theorem sum_oweR (p : Place) (c : Dev nD) : ∀ l : List (Fin 8),
    ∑ d : Dev nD, oweR d l (cell (c, p)) () = (l.map fun k => if p = pRcv k then N else 0).sum
  | [] => Finset.sum_eq_zero fun _ _ => rfl
  | k :: l => by
    rw [List.map_cons, List.sum_cons, Nat.add_comm, ← sum_oweR p c l, ← spread p (pRcv k) c k N, ← Finset.sum_add_distrib]; rfl

/-- and with them their signals at the distances in a list. -/
theorem sum_oweB (p : Place) (c : Dev nD) : ∀ l : List (Fin 8),
    ∑ d : Dev nD, oweB d l (cell (c, p)) ()
      = (l.map fun _ => if p = pBar then 1 else 0).sum + (steps.map fun k => if p = pRcv k then N else 0).sum
  | [] => (sum_oweR p c steps).trans (Nat.zero_add _).symm
  | k :: l => by
    rw [List.map_cons, List.sum_cons, Nat.add_assoc, Nat.add_comm, ← sum_oweB p c l, ← spread p pBar c k 1, ← Finset.sum_add_distrib]; rfl

/-- A barrier cell is owed seven, -/
theorem dueAt_bar : dueAt pBar = 7 := by simp [dueAt]
/-- and a receive cell at a distance other than 0 is owed one copy. -/
theorem dueAt_rcv (k : Fin 8) (hk : k ≠ 0) : dueAt (pRcv k) = N := by
  have h : ∀ n : ℕ, (steps.map fun j => if k = j then n else 0).sum = n := by
    intro n; fin_cases k <;> simp at hk ⊢
  unfold dueAt
  simpa using h N

omit [FloatOps F] in
/-- The launch's credit at a cell is what all devices together owe it. -/
theorem launch_at (c : Dev nD) (p : Place) :
    tallyOn (cell (c, p)) (launchCredit (Pipeline.owing O₀) 0 (cell (c, p))) = (tallyAt (cell (c, p)) () (dueAt p) : CellTallies nD τ sig Unit) := by
  unfold tallyAt; refine congrArg _ (Finsupp.ext fun u => ?_); cases u
  rw [Pipeline.launchCredit_owing, Finsupp.single_eq_same]
  exact sum_oweB p c steps

omit [FloatOps F] in
/-- The launch gives each device these credits at all its cells. -/
theorem creds_all (c : Dev nD) :
    (Pipeline.launchCred O₀ c : sProp 𝕄) ⊢ bigSep Finset.univ fun p : Place => cred (tallyAt (cell (c, p)) () (dueAt p)) := by
  unfold Pipeline.launchCred
  refine (BI.bigSep_subset (t := Finset.univ.map ⟨csem, csem_injective⟩) (Finset.subset_univ _)).trans ?_
  rw [bigSep_map]
  exact bigSep_mono fun p _ => Entails.of_eq (congrArg cred (launch_at c p))

/-- The credits device `c` waits with. -/
def waitCreds (c : Dev nD) : sProp 𝕄 :=
  iprop(cred (tallyAt (barCell c) () 7) ∗ bigSep (Finset.univ.erase 0) fun k : Fin 8 => cred (tallyAt (rcvCell c k) () N))

omit [FloatOps F] in
/-- Those of the receive cells, at the distances other than 0, are a copy's credit each. -/
theorem creds_rcv (c : Dev nD) :
    (bigSep Finset.univ fun k : Fin 8 => (cred (tallyAt (cell (c, pRcv k)) () (dueAt (pRcv k))) : sProp 𝕄))
      ⊢ bigSep (Finset.univ.erase 0) fun k : Fin 8 => cred (tallyAt (rcvCell c k) () N) :=
  (BI.bigSep_subset (Finset.erase_subset _ _)).trans
    (Entails.of_eq (bigSep_congr fun k hk => by rw [dueAt_rcv k (Finset.ne_of_mem_erase hk)]; rfl))

omit [FloatOps F] in
/-- So the launch gives each device the credits it waits with. -/
theorem creds (c : Dev nD) : (Pipeline.launchCred O₀ c : sProp 𝕄) ⊢ waitCreds c := by
  refine (creds_all c).trans ?_
  unfold waitCreds
  rw [bigSep_place, dueAt_bar]
  iintro ⟨HB, -, HR⟩
  isplitl [HB]; · iexact HB
  iapply (creds_rcv c); iexact HR

/-! ## Into the body and out of it -/

/-- Device `c` before its buffers are given to it. -/
def start (c : Dev nD) : sProp 𝕄 := iprop(G' m ρ c ∗ waitCreds c ∗ levAts L lv)

/-- What the launch gives a device, with its dealt ghost state, is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

omit [FloatOps F] in
/-- A family over the distances is its member at 0 and the rest. -/
theorem apart (Φ : Fin 8 → sProp 𝕄) : (bigSep Finset.univ Φ : sProp 𝕄) ⊢ iprop(Φ 0 ∗ bigSep (Finset.univ.erase 0) Φ) :=
  Entails.of_eq (bigSep_univ_at Φ 0)
omit [FloatOps F] in
/-- A family over all distances includes that over the distances other than 0. -/
theorem nonzero (Φ : Fin 8 → sProp 𝕄) : (bigSep Finset.univ Φ : sProp 𝕄) ⊢ bigSep (Finset.univ.erase 0) Φ :=
  BI.bigSep_subset (Finset.erase_subset _ _)
omit [FloatOps F] in
/-- A family over the distances may be read at the opposite distances. -/
theorem flipped (Φ : Fin 8 → sProp 𝕄) : (bigSep Finset.univ Φ : sProp 𝕄) ⊢ bigSep Finset.univ fun k => Φ (opp k) :=
  Entails.of_eq (BI.bigSep_univ_equiv flip Φ)

/-- Slots, places, tokens and credits make up what the body needs at each distance. -/
theorem kits (c : Dev nD) :
    iprop((bigSep Finset.univ fun k => slotAny sndM c k) ∗ (bigSep Finset.univ fun k => slotAny rcvM c k)
        ∗ (bigSep Finset.univ fun k : Fin 8 => atPos EX (sndCell c k) 0 (∅ : Finset (Fin 8)) 0)
        ∗ (bigSep Finset.univ fun k : Fin 8 => atPos EX (rcvCell c k) 0 (∅ : Finset (Fin 8)) 0)
        ∗ payToks c ∗ bigSep (Finset.univ.erase 0) fun k : Fin 8 => cred (tallyAt (rcvCell c k) () N))
      ⊢ (iprop(spare c ∗ bigSep (Finset.univ.erase 0) (kit c)) : sProp 𝕄) := by
  unfold payToks spare
  rw [show (kit (F := F) c) = fun k => kit c k from rfl]
  unfold kit sigKit sendKit recvKit
  simp only [bigSep_sep']
  iintro ⟨Hs, Hr, Hps, Hpr, ⟨Htb, Hts, Htr⟩, Hc⟩
  ihave Hs := (apart fun k => slotAny (F := F) sndM c k) $$ Hs
  icases Hs with ⟨Hs0, Hs⟩
  ihave Hr := (flipped fun k => slotAny (F := F) rcvM c k) $$ Hr
  ihave Hr := (apart fun k => slotAny (F := F) rcvM c (opp k)) $$ Hr
  icases Hr with ⟨Hr0, Hr⟩
  ihave Hps := (apart fun k => atPos EX (sndCell c k) 0 (∅ : Finset (Fin 8)) 0) $$ Hps
  icases Hps with ⟨Hps0, Hps⟩
  ihave Hpr := (apart fun k => atPos EX (rcvCell c k) 0 (∅ : Finset (Fin 8)) 0) $$ Hpr
  icases Hpr with ⟨Hpr0, Hpr⟩
  ihave Htb := (nonzero fun k => dutyTok EX (barCell (ahead c k)) 0 (opp k)) $$ Htb
  ihave Hts := (nonzero fun k => dutyTok EX (sndCell c k) 0 (0 : Fin 8)) $$ Hts
  ihave Htr := (nonzero fun k => dutyTok EX (rcvCell (ahead c k) k) 0 (0 : Fin 8)) $$ Htr
  isplitl [Hs0 Hr0 Hps0 Hpr0]
  · isplitl [Hs0 Hps0]
    · isplitl [Hs0] <;> iassumption
    isplitl [Hr0]; · iexact Hr0
    iexact Hpr0
  isplitl [Htb Hr]
  · isplitl [Htb] <;> iassumption
  isplitl [Hs Hts Htr]
  · isplitl [Hs]; · iexact Hs
    isplitl [Hts] <;> iassumption
  isplitl [Hc Hpr]
  · isplitl [Hc] <;> iassumption
  iexact Hps

/-- The send buffer is a whole buffer, -/
theorem snd_whole : sndM.view.set = Finset.univ := View.set_whole _
/-- and so is the landing buffer. -/
theorem rcv_whole : rcvM.view.set = Finset.univ := View.set_whole _

/-- A device's start, with the two slotted buffers, is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold start G' places waitCreds Φ₀ stage
  rw [bigSep_place]
  iintro ⟨⟨⟨%K, HR, ⟨HpB, Hps, Hpr⟩, Htok⟩, ⟨HcB, Hcr⟩, Hlev⟩, -, ⟨%fs, Hs⟩, ⟨%fr, Hr⟩⟩
  ihave Hs := (slots_split sndM snd_whole c fs) $$ Hs
  ihave Hr := (slots_split rcvM rcv_whole c fr) $$ Hr
  iexists K
  isplitl [HR]; · iexact HR
  isplitl [Hlev]; · iexact Hlev
  isplitl [HcB]; · iexact HcB
  isplitl [HpB]; · iexact HpB
  iapply (kits c)
  isplitl [Hs]; · iexact Hs
  isplitl [Hr]; · iexact Hr
  isplitl [Hps]; · iexact Hps
  isplitl [Hpr]; · iexact Hpr
  isplitl [Htok]; · iexact Htok
  iexact Hcr

/-- What the body ends with gives back every semaphore at zero and both slotted buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ sendDone recvDone
  simp only [bigSep_sep']
  iintro ⟨⟨Hs, HzS⟩, ⟨Hr, HzR⟩, HzB⟩
  isplitl [HzB]; · iexact HzB
  isplitl [HzS HzR]
  · isplitl [HzS] <;> iassumption
  isplitl [Hs]
  · iapply (slots_join sndM snd_whole c); iexact Hs
  · iapply (slots_join rcvM rcv_whole c); iexact Hr

/-- The pipeline may wait for its own copies while all the exchange's dues are open, or none is. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The array of window `w` on device `c` after the run. -/
def finalA (c : Dev nD) (w : Fin cfg0.W) : Buf (Elt F) ((cfg0.win w).arr.view.loc (c : Thread nD τ)) := (dats m ρ 0 c).arrAt w cfg0.N

/-- Every device's arrays are the computed ones. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values, every fair run of the program on the eight devices
    ends, with each device's arrays as computed and every counter at zero again. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The arguments hold what they held, -/
theorem final_a (c : Dev nD) : finalA m ρ c (0 : Fin 3) = m ((c : Thread nD τ).loc main_arg0) := (dats m ρ 0 c).arrAt_in (0 : Fin 3) rfl _
/-- both of them. -/
theorem final_b (c : Dev nD) : finalA m ρ c (1 : Fin 3) = m ((c : Thread nD τ).loc main_arg1) := (dats m ρ 0 c).arrAt_in (1 : Fin 3) rfl _

end Cert.Exchange

end
-- ==== Proof.Value.lean ====
/-
# The value: the devices' results are the blocks of one product

At the exact values a device's result at row `i`, column `j` is the sum over the eight devices of their partial products,
and these are the eight parts of the sum over all 4096 contracted positions.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.ValueLayout
public import Idealize.ShloMosaic.Lib.Layout
public import Idealize.ShloMosaic.Lib.Pipeline.Value

@[expose] public section

noncomputable section

namespace Cert.Exchange

open Cert.KernelIdeal Cert.KernelIdeal.Gen
open Idealize.ShloMosaic Idealize.ShloMosaic.TcCoe
open Idealize.SL.Sem
open Idealize.ShloMosaic.ValueIdx
open scoped BigOperators

/-! ## Windows that are whole arrays -/

section Windows
variable {F : FTy → Type} [FloatOps F]
variable (m : (ℓ : Loc nD τ sig) → Buf (Elt F) ℓ) (ρ : Dev nD → PrngReg)

/-- The staged columns of `A` are the first argument. -/
theorem aAt_eq (c : Dev nD) : aAt m ρ c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _
/-- The staged rows of `B` are the second argument. -/
theorem bAt_eq (c : Dev nD) : bAt m ρ c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) _

/-- The result array ends at the kernel's result. -/
theorem final_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  have hz : (fun a => win0_2.index (0 : Fin 1) a * main_v1.ty.shape.size a) = fun _ => 0 := funext fun a => by fin_cases a <;> decide
  exact (Memref.read_access_unit_zero (Elt F) main_v1 hz (fun a => by rw [congrFun hz a]; simp) _).symm.trans h

end Windows

/-- `A` is cut into eight blocks of columns, -/
theorem tiles_a : Layout.Tiles ⟨2, ![1024, 512]⟩ ⟨2, ![1024, 4096]⟩ 1 8 := by decide
/-- `B` is cut into eight blocks of rows, -/
theorem tiles_b : Layout.Tiles ⟨2, ![512, 1024]⟩ ⟨2, ![4096, 1024]⟩ 0 8 := by decide
/-- and so is the result. -/
theorem tiles_out : Layout.Tiles ⟨2, ![128, 1024]⟩ ⟨2, ![1024, 1024]⟩ 0 8 := by decide

/-- Row `i` of the rows device `t` keeps is row `128 t + i`. -/
def row (t : Fin 8) (i : Fin 128) : Fin 1024 := ⟨128 * t.val + i.val, by omega⟩
/-- Position `k` of device `q`'s part of the contracted positions is position `512 q + k`. -/
def pos (q : Fin 8) (k : Fin 512) : Fin 4096 := ⟨512 * q.val + k.val, by omega⟩

/-- The rows device `t` keeps, entry by entry. -/
theorem rows_apply {F : FTy → Type} [FloatOps F] (f : (cc0_stg0_0 : Ref sig .tc).ty.Contents (Elt F)) (t : Dev nD) (i : Fin 128) (k : Fin 512) :
    rowsOf f t (ix2 i k) = f (ix2 (row t i) k) := by
  show f _ = f _
  refine congrArg f (funext fun a => Fin.ext ?_)
  fin_cases a
  · show 128 * t.val + 1 * i.val = 128 * t.val + i.val
    omega
  · show 0 + 1 * k.val = k.val
    omega

/-! ## Each device's partial products -/

section Exact
variable (m : (ℓ : Loc nD τ sig) → Buf (Elt Ideal) ℓ) (ρ : Dev nD → PrngReg)
variable (A : FVec Ideal (⟨2, ![1024, 4096]⟩ : Shape) .bf16) (B : FVec Ideal (⟨2, ![4096, 1024]⟩ : Shape) .bf16)

/-- Device `q`'s part of the product's entry at row `r`, column `s`. -/
def part (q : Fin 8) (r s : Fin 1024) : EReal := ∑ k : Fin 512, A (ix2 r (pos q k)) * B (ix2 (pos q k) s)

/-- The kernel's product of 128 rows by `B`'s rows, entry by entry. -/
theorem product_apply (x : FVec Ideal S128x512 .bf16) (y : FVec Ideal S512x1024 .bf16) (i : Fin 128) (j : Fin 1024) :
    matmul (F := Ideal) dot_S128x512_S512x1024_S128x1024_1_0_0_1_n_n none x y (constant S128x1024 .f32 0x00000000#32) (ix2 i j)
      = ∑ k : Fin 512, x (ix2 i k) * y (ix2 k j) := by
  refine (Ideal.matmul_plain_apply (M := 128) (K := 512) (N := 1024) none x y _ i j).trans ?_
  rw [constant_apply, Ideal.ofBits_zero_f32, zero_add]

variable (hA : ∀ c : Dev nD, m ((c : Thread nD τ).loc main_arg0) = Layout.block ⟨2, ![1024, 512]⟩ ⟨2, ![1024, 4096]⟩ 1 8 c A tiles_a)
variable (hB : ∀ c : Dev nD, m ((c : Thread nD τ).loc main_arg1) = Layout.block ⟨2, ![512, 1024]⟩ ⟨2, ![4096, 1024]⟩ 0 8 c B tiles_b)

include hA in
/-- Device `c`'s columns of `A`. -/
theorem a_apply (c : Dev nD) (r : Fin 1024) (k : Fin 512) : aAt m ρ c (ix2 r k) = A (ix2 r (pos c k)) := by
  rw [aAt_eq, hA c]
  refine congrArg A (funext fun a => Fin.ext ?_)
  fin_cases a
  · rfl
  · show c.val * 512 + k.val = 512 * c.val + k.val
    omega

include hB in
/-- Device `c`'s rows of `B`. -/
theorem b_apply (c : Dev nD) (k : Fin 512) (s : Fin 1024) : bAt m ρ c (ix2 k s) = B (ix2 (pos c k) s) := by
  rw [bAt_eq, hB c]
  refine congrArg B (funext fun a => Fin.ext ?_)
  fin_cases a
  · show c.val * 512 + k.val = 512 * c.val + k.val
    omega
  · rfl

include hA hB in
/-- Device `c`'s product for the rows of device `t` is its part of those rows of the whole product. -/
theorem partial_apply (c t : Dev nD) (i : Fin 128) (j : Fin 1024) :
    ∑ k : Fin 512, rowsOf (aAt m ρ c) t (ix2 i k) * bAt m ρ c (ix2 k j) = part A B c (row t i) j :=
  Finset.sum_congr rfl fun k _ => by rw [rows_apply, a_apply m ρ A hA, b_apply m ρ B hB]

include hA hB in
/-- A device's own partial product is its part of its own rows. -/
theorem own_apply (c : Dev nD) (i : Fin 128) (j : Fin 1024) : ownPart m ρ c (ix2 i j) = part A B c (row c i) j := by
  unfold ownPart k0_pay10 k0_pay1
  dsimp only
  rw [shapeCast_self, shapeCast_self, product_apply]
  exact partial_apply m ρ A B hA hB c c i j

include hA hB in
/-- What it sends device `t` is its part of `t`'s rows: the rounding for the way changes nothing at the exact values. -/
theorem sent_apply (c t : Dev nD) (i : Fin 128) (j : Fin 1024) : partFor m ρ c t (ix3 (0 : Fin 1) i j) = part A B c (row t i) j := by
  unfold partFor k0_pay2 k0_pay1
  dsimp only
  rw [shapeCast_self, shapeCast_self]
  refine (shapeCast_ab_1ab_apply _ _ (0 : Fin 1) i j).trans ?_
  rw [truncf_apply, product_apply]
  exact partial_apply m ρ A B hA hB c t i j

/-- One more slot added into the accumulator. -/
theorem add_apply (o : Vec Ideal S128x1024 .f32) (x : Vec Ideal S1x128x1024 .bf16) (i : Fin 128) (j : Fin 1024) :
    k0_pay11 o x (ix2 i j) = o (ix2 i j) + x (ix3 (0 : Fin 1) i j) := by
  unfold k0_pay11
  rw [shapeCast_self, addf_apply, extf_apply]
  exact congrArg (o (ix2 i j) + ·) (shapeCast_1ab_ab_apply x _ i j)

include hA hB in
/-- The accumulator's entries: the device's own part and the parts received so far. -/
theorem fold_apply (c : Dev nD) (i : Fin 128) (j : Fin 1024) : ∀ (l : List (Fin 8)) (o : FVec Ideal S128x1024 .f32),
    l.foldl (fun (o : FVec Ideal S128x1024 .f32) k => k0_pay11 o (partFor m ρ (behind c k) c)) o (ix2 i j)
      = (o (ix2 i j) : EReal) + (l.map fun k => part A B (behind c k) (row c i) j).sum
  | [], o => (add_zero _).symm
  | k :: l, o => by
    rw [List.foldl_cons, fold_apply c i j l, add_apply, sent_apply m ρ A B hA hB, List.map_cons, List.sum_cons, add_assoc]

/-- Going back from `c` by the eight distances meets every device once. -/
theorem behind_bijective (c : Dev nD) : Function.Bijective (behind c) := by revert c; decide +kernel

/-- The sum over all contracted positions is the sum of the eight devices' parts. -/
theorem sum_parts (r s : Fin 1024) : ∑ k : Fin 4096, A (ix2 r k) * B (ix2 k s) = ∑ q : Fin 8, part A B q r s := by
  unfold part
  rw [← Fintype.sum_prod_type' (fun (q : Fin 8) (k : Fin 512) => A (ix2 r (pos q k)) * B (ix2 (pos q k) s)),
    ← Equiv.sum_comp (finProdFinEquiv (m := 8) (n := 512)) (fun k : Fin 4096 => A (ix2 r k) * B (ix2 k s))]
  refine Finset.sum_congr rfl fun x _ => ?_
  rw [show (finProdFinEquiv x : Fin 4096) = pos x.1 x.2 from Fin.ext (Nat.add_comm _ _)]

include hA hB in
/-- The kernel's result on device `c`, entry by entry, is the whole product at `c`'s rows. -/
theorem out_apply (c : Dev nD) (i : Fin 128) (j : Fin 1024) :
    (outAt m ρ c : Vec Ideal S128x1024 .f32) (ix2 i j) = ∑ k : Fin 4096, A (ix2 (row c i) k) * B (ix2 k j) := by
  unfold outAt accum
  refine (fold_apply m ρ A B hA hB c i j steps (ownPart m ρ c)).trans ?_
  rw [own_apply m ρ A B hA hB, sum_parts, ← (behind_bijective c).sum_comp, Fin.sum_univ_eight]
  rw [show behind c 0 = c from by revert c; decide]
  simp only [List.map_cons, List.map_nil, List.sum_cons, List.sum_nil, add_zero, add_assoc]

end Exact

/-! ## Against the reference -/

/-- The reference's result from whole arrays `A` and `B`. -/
def product (A : FVec Ideal (⟨2, ![1024, 4096]⟩ : Shape) .bf16) (B : FVec Ideal (⟨2, ![4096, 1024]⟩ : Shape) .bf16) :
    FVec Ideal (⟨2, ![1024, 1024]⟩ : Shape) .f32 :=
  Host.dotGeneral (F := Ideal) Cert.ReferenceIdeal.dot_S1024x4096_S4096x1024_S1024x1024_1_0_0_1_n_n none
    (extf .f32 A Cert.ReferenceIdeal.Gen.bitsLt_bf16_f32) (extf .f32 B Cert.ReferenceIdeal.Gen.bitsLt_bf16_f32)

/-- The reference's result, entry by entry. -/
theorem reference_apply (A : FVec Ideal (⟨2, ![1024, 4096]⟩ : Shape) .bf16) (B : FVec Ideal (⟨2, ![4096, 1024]⟩ : Shape) .bf16) (r s : Fin 1024) :
    product A B (ix2 r s) = ∑ k : Fin 4096, A (ix2 r k) * B (ix2 k s) :=
  StackMember.dotGeneral_plain_apply (m := 1024) (k := 4096) (n := 1024) none _ _ r s

/-- Each device's result is its block of rows of the reference's result. -/
theorem out_block (m : (ℓ : Loc nD τ sig) → Buf (Elt Ideal) ℓ) (ρ : Dev nD → PrngReg)
    (A : FVec Ideal (⟨2, ![1024, 4096]⟩ : Shape) .bf16) (B : FVec Ideal (⟨2, ![4096, 1024]⟩ : Shape) .bf16)
    (hA : ∀ c : Dev nD, m ((c : Thread nD τ).loc main_arg0) = Layout.block ⟨2, ![1024, 512]⟩ ⟨2, ![1024, 4096]⟩ 1 8 c A tiles_a)
    (hB : ∀ c : Dev nD, m ((c : Thread nD τ).loc main_arg1) = Layout.block ⟨2, ![512, 1024]⟩ ⟨2, ![4096, 1024]⟩ 0 8 c B tiles_b) (c : Dev nD) :
    outAt m ρ c = Layout.block ⟨2, ![128, 1024]⟩ ⟨2, ![1024, 1024]⟩ 0 8 c (product A B) tiles_out := by
  funext x
  have hx : x = ix2 (n0 := 128) (n1 := 1024) (x 0) (x 1) := funext fun a => by fin_cases a <;> rfl
  rw [hx]
  refine (out_apply m ρ A B hA hB c (x 0) (x 1)).trans ((reference_apply A B _ _).symm.trans ?_)
  refine congrArg (product A B) (funext fun a => Fin.ext ?_)
  fin_cases a
  · show 128 * c.val + (x 0).val = c.val * 128 + (x 0).val
    omega
  · rfl

end Cert.Exchange

end
-- ==== Proof.lean ====
/-
  The proof of `Cert.Claim`: the three frames, the (empty) list of rewrites, and the value.

  The kernel's two programs have the same text, so one run (`Cert.Exchange.run_main`, Proof/Launch.lean) over any float
  values gives both frames. The value (Proof/Value.lean) reads that run at the exact values and compares it with the
  reference's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.Exchange

/-- Every fair run of the kernel ends, with its arguments unchanged and every counter at zero, at the exact values. -/
theorem frame_ideal : Cert.quiescent_KernelIdeal := fun m ρ _ =>
  (θ_run Cert.KernelIdeal.defs _ _).mono
    (fun _ h => ⟨fun c => ⟨(h.1 c (0 : Fin 3)).trans (final_a m ρ c), (h.1 c (1 : Fin 3)).trans (final_b m ρ c)⟩, h.2⟩)
    (run_main (F := Ideal) m ρ)

/-- The functions of the program over the machine's floats are those of the idealized one, taken at those floats, -/
theorem same_table : Cert.Kernel.defs₀ (F := Bits) = Cert.KernelIdeal.defs₀ (F := Bits) := by
  funext p ℓ a
  cases p with
  | tc =>
    obtain ⟨n, hn⟩ := ℓ
    cases n with
    | zero => obtain ⟨t, s⟩ := a; rfl
    | succ n => exact absurd hn (Nat.not_lt.2 (Nat.le_add_left _ _))
  | scScalar _ => rfl
  | scVector _ _ => rfl

/-- and so are they with the pipeline's. -/
theorem same_program : Cert.Kernel.defs (F := Bits) = Cert.KernelIdeal.defs (F := Bits) :=
  congrArg (Pipeline.defs Cert.KernelIdeal.pcfgs) same_table

/-- Every fair run of the kernel ends, with its arguments unchanged and every counter at zero, at the machine's floats. -/
theorem frame_kernel : Cert.quiescent_Kernel := fun m ρ _ => by
  rw [same_program]
  exact (θ_run Cert.KernelIdeal.defs _ _).mono
    (fun _ h => ⟨fun c => ⟨(h.1 c (0 : Fin 3)).trans (final_a m ρ c), (h.1 c (1 : Fin 3)).trans (final_b m ρ c)⟩, h.2⟩)
    (run_main (F := Bits) m ρ)

/-- The reference runs, with its arguments unchanged; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From the same arrays, each device's result is its block of rows of the reference's result. -/
theorem value : Cert.algebraic_KernelIdeal_ReferenceIdeal := fun m ρ m' ρ' _ hargs =>
  ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((final_out m ρ c).trans
            (out_block m ρ _ _ (fun c => (hargs c).1) (fun c => (hargs c).2) c)),
          (h.1 c (0 : Fin 3)).trans (final_a m ρ c), (h.1 c (1 : Fin 3)).trans (final_b m ρ c)⟩)
      (run_main (F := Ideal) m ρ),
    (θ_run Cert.ReferenceIdeal.defs _ _).mono (fun _ h => h 0) (Cert.ReferenceIdeal.Value.run (F := Ideal) m' ρ')⟩

/-- All the claims of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
